-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small_KernelIdeal [hPre_small_KernelIdeal : Cert.Pre_small_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_small_ReferenceIdeal [hPre_small_ReferenceIdeal : Cert.Pre_small_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_small_KernelIdeal [hKernelIdeal : Cert.KernelIdeal.Facts] [hPre_small_KernelIdeal : Cert.Pre_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_small_ReferenceIdeal [hReferenceIdeal : Cert.ReferenceIdeal.Facts] [hPre_small_ReferenceIdeal : Cert.Pre_small_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1)
      ∧ r.2.mem ((c.tc : Thread Cert.UnclippedIdeal.nD Cert.UnclippedIdeal.τ).loc Cert.UnclippedIdeal.main_arg2) = m ((c.tc : Thread Cert.UnclippedIdeal.nD Cert.UnclippedIdeal.τ).loc Cert.UnclippedIdeal.main_arg2))
      ∧ r.2.sem = fun _ => 0)

def preserves_Kernel_KernelIdeal : Prop :=
  True

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![2048, 512]⟩ 0 4 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = Layout.block ⟨2, ![512, 2048]⟩ ⟨2, ![512, 8192]⟩ 1 4 c (m' (((0 : Dev Cert.UnclippedIdeal.nD).tc : Thread Cert.UnclippedIdeal.nD Cert.UnclippedIdeal.τ).loc Cert.UnclippedIdeal.main_arg1))
      ∧ m ((c.tc : Thread Cert.KernelIdeal.nD Cert.KernelIdeal.τ).loc Cert.KernelIdeal.main_arg2) = Layout.block ⟨2, ![2048, 512]⟩ ⟨2, ![8192, 512]⟩ 0 4 c (m' (((0 : Dev Cert.UnclippedIdeal.nD).tc : Thread Cert.UnclippedIdeal.nD Cert.UnclippedIdeal.τ).loc Cert.UnclippedIdeal.main_arg2))) →
    ∃ (v0 : Buf (Elt Ideal) (((0 : Dev Cert.UnclippedIdeal.nD).tc : Thread Cert.UnclippedIdeal.nD Cert.UnclippedIdeal.τ).loc Cert.UnclippedIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v6) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1)
          ∧ r.2.mem (((0 : Dev Cert.UnclippedIdeal.nD).tc : Thread Cert.UnclippedIdeal.nD Cert.UnclippedIdeal.τ).loc Cert.UnclippedIdeal.main_arg2) = m' (((0 : Dev Cert.UnclippedIdeal.nD).tc : Thread Cert.UnclippedIdeal.nD Cert.UnclippedIdeal.τ).loc Cert.UnclippedIdeal.main_arg2))

def algebraic_KernelIdeal_ReferenceIdeal_pre_small_KernelIdeal [hKernelIdeal : Cert.KernelIdeal.Facts] [hReferenceIdeal : Cert.ReferenceIdeal.Facts] [hPre_small_KernelIdeal : Cert.Pre_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![512, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 512]⟩ ⟨2, ![8192, 512]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_small_KernelIdeal : Cert.Pre_small_KernelIdeal.Facts) (hPre_small_ReferenceIdeal : Cert.Pre_small_ReferenceIdeal.Facts),
    quiescent_Kernel (hKernel := hKernel)
    ∧ quiescent_KernelIdeal (hKernelIdeal := hKernelIdeal)
    ∧ quiescent_KernelIdeal_pre_small_KernelIdeal (hKernelIdeal := hKernelIdeal) (hPre_small_KernelIdeal := hPre_small_KernelIdeal)
    ∧ quiescent_ReferenceIdeal (hReferenceIdeal := hReferenceIdeal)
    ∧ quiescent_ReferenceIdeal_pre_small_ReferenceIdeal (hReferenceIdeal := hReferenceIdeal) (hPre_small_ReferenceIdeal := hPre_small_ReferenceIdeal)
    ∧ quiescent_UnclippedIdeal (hUnclippedIdeal := hUnclippedIdeal)
    ∧ preserves_Kernel_KernelIdeal
    ∧ algebraic_KernelIdeal_UnclippedIdeal (hKernelIdeal := hKernelIdeal) (hUnclippedIdeal := hUnclippedIdeal)
    ∧ algebraic_KernelIdeal_ReferenceIdeal_pre_small_KernelIdeal (hKernelIdeal := hKernelIdeal) (hReferenceIdeal := hReferenceIdeal) (hPre_small_KernelIdeal := hPre_small_KernelIdeal)
-- ==== Pre_small_KernelIdeal.lean ====
abbrev S512x512 : Shape := ⟨2, ![512, 512]⟩
abbrev S512x2048 : Shape := ⟨2, ![512, 2048]⟩
abbrev S2048x512 : Shape := ⟨2, ![2048, 512]⟩
abbrev S_ : Shape := ⟨0, ![]⟩
abbrev S512 : Shape := ⟨1, ![512]⟩
abbrev S512x1 : Shape := ⟨2, ![512, 1]⟩
abbrev S2048 : Shape := ⟨1, ![2048]⟩
abbrev S1x2048 : Shape := ⟨2, ![1, 2048]⟩

class Facts : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  reducesTo_S512x2048_S2048_d0 : S512x2048.ReducesTo [0] S2048
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S512x1_S512x2048_0_1 : S512x1.BroadcastsInDim S512x2048 (![0, 1] : Fin 2 → Fin S512x2048.rank)
  bcast_S1x2048_S512x2048_0_1 : S1x2048.BroadcastsInDim S512x2048 (![0, 1] : Fin 2 → Fin S512x2048.rank)

variable [Facts]

def fn {F : FTy → Type} [FloatOps F] (main_arg0 : FVec F S512x512 .f32) (main_arg1 : FVec F S512x2048 .f32) (main_arg2 : FVec F S2048x512 .f32) : IVec S512x2048 1 :=
  let main_v0 : FVec F S512x512 .f32 := mulf main_arg0 main_arg0
  let main_cst : FVec F S_ .f32 := constant S_ .f32 0x00000000#32
  let main_v1 : FVec F S512 .f32 := (fun x v => Host.reduceAdd x v reducesTo_S512x512_S512_d1 h_S_) main_v0 main_cst
  let main_v2 : FVec F S512x1 .f32 := broadcastInDim S512x1 ![0] bcast_S512_S512x1_0 main_v1
  let main_cst_0 : FVec F S_ .f32 := constant S_ .f32 0x44610000#32
  let main_v3 : FVec F S512x1 .f32 := broadcastInDim S512x1 ![] bcast_S_S512x1 main_cst_0
  let main_v4 : IVec S512x1 1 := cmpf .ole main_v2 main_v3
  let main_v5 : FVec F S512x2048 .f32 := mulf main_arg1 main_arg1
  let main_cst_1 : FVec F S_ .f32 := constant S_ .f32 0x00000000#32
  let main_v6 : FVec F S2048 .f32 := (fun x v => Host.reduceAdd x v reducesTo_S512x2048_S2048_d0 h_S_) main_v5 main_cst_1
  let main_v7 : FVec F S1x2048 .f32 := broadcastInDim S1x2048 ![1] bcast_S2048_S1x2048_1 main_v6
  let main_cst_2 : FVec F S_ .f32 := constant S_ .f32 0x40800000#32
  let main_v8 : FVec F S1x2048 .f32 := broadcastInDim S1x2048 ![] bcast_S_S1x2048 main_cst_2
  let main_v9 : IVec S1x2048 1 := cmpf .ole main_v7 main_v8
  let main_v10 : IVec S512x2048 1 := broadcastInDim S512x2048 ![0, 1] bcast_S512x1_S512x2048_0_1 main_v4
  let main_v11 : IVec S512x2048 1 := broadcastInDim S512x2048 ![0, 1] bcast_S1x2048_S512x2048_0_1 main_v9
  let main_v12 : IVec S512x2048 1 := andi main_v10 main_v11
  main_v12
-- ==== Pre_small_ReferenceIdeal.lean ====
abbrev S2048x512 : Shape := ⟨2, ![2048, 512]⟩
abbrev S512x8192 : Shape := ⟨2, ![512, 8192]⟩
abbrev S8192x512 : Shape := ⟨2, ![8192, 512]⟩
abbrev S_ : Shape := ⟨0, ![]⟩
abbrev S2048 : Shape := ⟨1, ![2048]⟩
abbrev S2048x1 : Shape := ⟨2, ![2048, 1]⟩
abbrev S8192 : Shape := ⟨1, ![8192]⟩
abbrev S1x8192 : Shape := ⟨2, ![1, 8192]⟩
abbrev S2048x8192 : Shape := ⟨2, ![2048, 8192]⟩

class Facts : Prop where
  reducesTo_S2048x512_S2048_d1 : S2048x512.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  reducesTo_S512x8192_S8192_d0 : S512x8192.ReducesTo [0] S8192
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S2048x1_S2048x8192_0_1 : S2048x1.BroadcastsInDim S2048x8192 (![0, 1] : Fin 2 → Fin S2048x8192.rank)
  bcast_S1x8192_S2048x8192_0_1 : S1x8192.BroadcastsInDim S2048x8192 (![0, 1] : Fin 2 → Fin S2048x8192.rank)

variable [Facts]

def fn {F : FTy → Type} [FloatOps F] (main_arg0 : FVec F S2048x512 .f32) (main_arg1 : FVec F S512x8192 .f32) (main_arg2 : FVec F S8192x512 .f32) : IVec S2048x8192 1 :=
  let main_v0 : FVec F S2048x512 .f32 := mulf main_arg0 main_arg0
  let main_cst : FVec F S_ .f32 := constant S_ .f32 0x00000000#32
  let main_v1 : FVec F S2048 .f32 := (fun x v => Host.reduceAdd x v reducesTo_S2048x512_S2048_d1 h_S_) main_v0 main_cst
  let main_v2 : FVec F S2048x1 .f32 := broadcastInDim S2048x1 ![0] bcast_S2048_S2048x1_0 main_v1
  let main_cst_0 : FVec F S_ .f32 := constant S_ .f32 0x44610000#32
  let main_v3 : FVec F S2048x1 .f32 := broadcastInDim S2048x1 ![] bcast_S_S2048x1 main_cst_0
  let main_v4 : IVec S2048x1 1 := cmpf .ole main_v2 main_v3
  let main_v5 : FVec F S512x8192 .f32 := mulf main_arg1 main_arg1
  let main_cst_1 : FVec F S_ .f32 := constant S_ .f32 0x00000000#32
  let main_v6 : FVec F S8192 .f32 := (fun x v => Host.reduceAdd x v reducesTo_S512x8192_S8192_d0 h_S_) main_v5 main_cst_1
  let main_v7 : FVec F S1x8192 .f32 := broadcastInDim S1x8192 ![1] bcast_S8192_S1x8192_1 main_v6
  let main_cst_2 : FVec F S_ .f32 := constant S_ .f32 0x40800000#32
  let main_v8 : FVec F S1x8192 .f32 := broadcastInDim S1x8192 ![] bcast_S_S1x8192 main_cst_2
  let main_v9 : IVec S1x8192 1 := cmpf .ole main_v7 main_v8
  let main_v10 : IVec S2048x8192 1 := broadcastInDim S2048x8192 ![0, 1] bcast_S2048x1_S2048x8192_0_1 main_v4
  let main_v11 : IVec S2048x8192 1 := broadcastInDim S2048x8192 ![0, 1] bcast_S1x8192_S2048x8192_0_1 main_v9
  let main_v12 : IVec S2048x8192 1 := andi main_v10 main_v11
  main_v12
-- ==== Kernel.lean ====
abbrev S512x512 : Shape := ⟨2, ![512, 512]⟩
abbrev S512x2048 : Shape := ⟨2, ![512, 2048]⟩
abbrev S2048x512 : Shape := ⟨2, ![2048, 512]⟩
abbrev S3x256x512 : Shape := ⟨3, ![3, 256, 512]⟩
abbrev S256x512 : Shape := ⟨2, ![256, 512]⟩
abbrev S3x2 : Shape := ⟨2, ![3, 2]⟩
abbrev S_ : Shape := ⟨0, ![]⟩
abbrev S1x1 : Shape := ⟨2, ![1, 1]⟩
abbrev S1x128x512 : Shape := ⟨3, ![1, 128, 512]⟩
abbrev S128x512 : Shape := ⟨2, ![128, 512]⟩
abbrev S128x2048 : Shape := ⟨2, ![128, 2048]⟩

abbrev nBuf : Space → Nat
  | .hbm => 4
  | .vmem => 12
  | .smem => 0
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S2048x512, .f32⟩
  | .hbm, ⟨3, _⟩ => ⟨S512x512, .f32⟩
  | .local _ .vmem, ⟨0, _⟩ => ⟨S512x512, .f32⟩
  | .local _ .vmem, ⟨1, _⟩ => ⟨S512x2048, .f32⟩
  | .local _ .vmem, ⟨2, _⟩ => ⟨S2048x512, .f32⟩
  | .local _ .vmem, ⟨3, _⟩ => ⟨S512x512, .f32⟩
  | .local _ .vmem, ⟨4, _⟩ => ⟨S3x256x512, .f32⟩
  | .local _ .vmem, ⟨5, _⟩ => ⟨S3x256x512, .f32⟩
  | .local _ .vmem, ⟨6, _⟩ => ⟨S3x256x512, .f32⟩
  | .local _ .vmem, ⟨7, _⟩ => ⟨S256x512, .f32⟩
  | .local _ .vmem, ⟨8, _⟩ => ⟨S3x256x512, .f32⟩
  | .local _ .vmem, ⟨9, _⟩ => ⟨S3x256x512, .f32⟩
  | .local _ .vmem, ⟨10, _⟩ => ⟨S3x256x512, .f32⟩
  | .local _ .vmem, ⟨11, _⟩ => ⟨S256x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_15 : BitVec 32 := 1#32
  let v13 : BitVec 32 := Scalar.muli v7 c1_i32_15
  let v14 : BitVec 32 := Scalar.addi c0_i32_16 v13
  v14.toNat
def k0_dev4 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_26 : BitVec 32 := 1#32
  let v22 : BitVec 32 := Scalar.muli v5 c1_i32_26
  let v23 : BitVec 32 := Scalar.addi c0_i32_27 v22
  v23.toNat
def k0_dev5 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_36 : BitVec 32 := 1#32
  let v31 : BitVec 32 := Scalar.muli v7 c1_i32_36
  let v32 : BitVec 32 := Scalar.addi c0_i32_37 v31
  v32.toNat
def k0_dev6 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_46 : BitVec 32 := 1#32
  let v40 : BitVec 32 := Scalar.muli v5 c1_i32_46
  let v41 : BitVec 32 := Scalar.addi c0_i32_47 v40
  v41.toNat
def k0_dev7 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_56 : BitVec 32 := 1#32
  let v49 : BitVec 32 := Scalar.muli v5 c1_i32_56
  let v50 : BitVec 32 := Scalar.addi c0_i32_57 v49
  v50.toNat
def k0_dev8 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_67 : BitVec 32 := 1#32
  let v58 : BitVec 32 := Scalar.muli v7 c1_i32_67
  let v59 : BitVec 32 := Scalar.addi c0_i32_68 v58
  v59.toNat
def k0_dev9 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_113 : BitVec 32 := 1#32
  let v112 : BitVec 32 := Scalar.muli v7 c1_i32_113
  let v113 : BitVec 32 := Scalar.addi c0_i32_114 v112
  v113.toNat
def k0_dev10 (d0 : Dev nD) : Nat :=
  let c0_i32_137 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_136 : BitVec 32 := 1#32
  let v129 : BitVec 32 := Scalar.muli v5 c1_i32_136
  let v130 : BitVec 32 := Scalar.addi c0_i32_137 v129
  v130.toNat
def k0_dev11 (d0 : Dev nD) : Nat :=
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_147 : BitVec 32 := 1#32
  let v139 : BitVec 32 := Scalar.muli v5 c1_i32_147
  let v140 : BitVec 32 := Scalar.addi c0_i32_148 v139
  v140.toNat
def k0_dev12 (d0 : Dev nD) : Nat :=
  let c0_i32_159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_158 : BitVec 32 := 1#32
  let v148 : BitVec 32 := Scalar.muli v7 c1_i32_158
  let v149 : BitVec 32 := Scalar.addi c0_i32_159 v148
  v149.toNat
def k0_dev13 (d0 : Dev nD) : Nat :=
  let c0_i32_206 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_205 : BitVec 32 := 1#32
  let v202 : BitVec 32 := Scalar.muli v7 c1_i32_205
  let v203 : BitVec 32 := Scalar.addi c0_i32_206 v202
  v203.toNat
def k0_dev14 (d0 : Dev nD) : Nat :=
  let c0_i32_229 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_228 : BitVec 32 := 1#32
  let v219 : BitVec 32 := Scalar.muli v5 c1_i32_228
  let v220 : BitVec 32 := Scalar.addi c0_i32_229 v219
  v220.toNat
def k0_dev15 (d0 : Dev nD) : Nat :=
  let c0_i32_255 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_254 : BitVec 32 := 1#32
  let v248 : BitVec 32 := Scalar.muli v5 c1_i32_254
  let v249 : BitVec 32 := Scalar.addi c0_i32_255 v248
  v249.toNat
def k0_dev16 (d0 : Dev nD) : Nat :=
  let c0_i32_282 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_281 : BitVec 32 := 1#32
  let v277 : BitVec 32 := Scalar.muli v7 c1_i32_281
  let v278 : BitVec 32 := Scalar.addi c0_i32_282 v277
  v278.toNat
def k0_dev17 (d0 : Dev nD) : Nat :=
  let c0_i32_309 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_308 : BitVec 32 := 1#32
  let v306 : BitVec 32 := Scalar.muli v5 c1_i32_308
  let v307 : BitVec 32 := Scalar.addi c0_i32_309 v306
  v307.toNat
def k0_dev18 (d0 : Dev nD) : Nat :=
  let c0_i32_336 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_335 : BitVec 32 := 1#32
  let v335 : BitVec 32 := Scalar.muli v7 c1_i32_335
  let v336 : BitVec 32 := Scalar.addi c0_i32_336 v335
  v336.toNat
def k0_dev19 (d0 : Dev nD) : Nat :=
  let c0_i32_478 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_477 : BitVec 32 := 1#32
  let v476 : BitVec 32 := Scalar.muli v7 c1_i32_477
  let v477 : BitVec 32 := Scalar.addi c0_i32_478 v476
  v477.toNat
def k0_dev20 (d0 : Dev nD) : Nat :=
  let c0_i32_517 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_516 : BitVec 32 := 1#32
  let v513 : BitVec 32 := Scalar.muli v5 c1_i32_516
  let v514 : BitVec 32 := Scalar.addi c0_i32_517 v513
  v514.toNat
def k0_dev21 (d0 : Dev nD) : Nat :=
  let c0_i32_556 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_555 : BitVec 32 := 1#32
  let v550 : BitVec 32 := Scalar.muli v7 c1_i32_555
  let v551 : BitVec 32 := Scalar.addi c0_i32_556 v550
  v551.toNat
def k0_dev22 (d0 : Dev nD) : Nat :=
  let c0_i32_595 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_594 : BitVec 32 := 1#32
  let v587 : BitVec 32 := Scalar.muli v5 c1_i32_594
  let v588 : BitVec 32 := Scalar.addi c0_i32_595 v587
  v588.toNat
def k0_dev23 (d0 : Dev nD) : Nat :=
  let c0_i32_628 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_627 : BitVec 32 := 1#32
  let v613 : BitVec 32 := Scalar.muli v7 c1_i32_627
  let v614 : BitVec 32 := Scalar.addi c0_i32_628 v613
  v614.toNat
def k0_dev24 (d0 : Dev nD) : Nat :=
  let c0_i32_661 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_660 : BitVec 32 := 1#32
  let v639 : BitVec 32 := Scalar.muli v5 c1_i32_660
  let v640 : BitVec 32 := Scalar.addi c0_i32_661 v639
  v640.toNat
def k0_dev25 (d0 : Dev nD) : Nat :=
  let c0_i32_694 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_693 : BitVec 32 := 1#32
  let v665 : BitVec 32 := Scalar.muli v7 c1_i32_693
  let v666 : BitVec 32 := Scalar.addi c0_i32_694 v665
  v666.toNat
def k0_dev26 (d0 : Dev nD) : Nat :=
  let c0_i32_727 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_726 : BitVec 32 := 1#32
  let v691 : BitVec 32 := Scalar.muli v5 c1_i32_726
  let v692 : BitVec 32 := Scalar.addi c0_i32_727 v691
  v692.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x8192 : Shape := ⟨2, ![512, 8192]⟩
abbrev S8192x512 : Shape := ⟨2, ![8192, 512]⟩
abbrev S2048x8192 : Shape := ⟨2, ![2048, 8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x8192, .f32⟩
  | .hbm, ⟨2, _⟩ => ⟨S8192x512, .f32⟩
  | .hbm, ⟨3, _⟩ => ⟨S2048x8192, .f32⟩
  | .hbm, ⟨4, _⟩ => ⟨S_, .i32⟩
  | .hbm, ⟨5, _⟩ => ⟨S_, .i32⟩
  | .hbm, ⟨6, _⟩ => ⟨S_, .f32⟩
  | .hbm, ⟨7, _⟩ => ⟨S2048x8192, .f32⟩
  | .hbm, ⟨8, _⟩ => ⟨S2048x8192, .f32⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S2048x8192, .f32⟩
  | .hbm, ⟨13, _⟩ => ⟨S2048x8192, .f32⟩
  | .hbm, ⟨14, _⟩ => ⟨S_, .f32⟩
  | .hbm, ⟨15, _⟩ => ⟨S2048x8192, .f32⟩
  | .hbm, ⟨16, _⟩ => ⟨S2048x8192, .f32⟩
  | .hbm, ⟨17, _⟩ => ⟨S2048x8192, .f32⟩
  | .hbm, ⟨18, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== UnclippedIdeal.lean ====
abbrev S2048x512 : Shape := ⟨2, ![2048, 512]⟩
abbrev S512x8192 : Shape := ⟨2, ![512, 8192]⟩
abbrev S8192x512 : Shape := ⟨2, ![8192, 512]⟩
abbrev S2048x8192 : Shape := ⟨2, ![2048, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x8192, .f32⟩
  | .hbm, ⟨2, _⟩ => ⟨S8192x512, .f32⟩
  | .hbm, ⟨3, _⟩ => ⟨S2048x8192, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .f32⟩
  | .hbm, ⟨9, _⟩ => ⟨S2048x8192, .f32⟩
  | .hbm, ⟨10, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Ring.lean ====
/-
# The rings: devices, transfers, slots, semaphores, contents and the schedule

Four devices sit on two rings. Ring `0` sends forward to the right neighbour and backward to the left one, ring `1` the
other way round; each ring carries half of the rows, in two segments of 128 rows. On every ring and segment a device starts
six transfers, named here by a kind:

* kind 0, the device's own rows forward; kind 1, its own rows backward; kind 2, the rows received forward, sent on forward;
* kind 3, the partial product of the rows of the device two steps back, sent forward; kind 4, the partial product of the
  rows of the device one step forward, summed with what kind 3 brought, sent forward; kind 5, the partial product of the
  rows of the device one step back, sent backward.

Every transfer has its own pair of DMA semaphores, so each semaphore has one round with one duty, and the barrier semaphore
one round with a duty for either neighbour, which hands over the landing slots on that neighbour.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The next device of ring `r`, and the one before. -/
def fwd (r : Fin 2) (c : Dev nD) : Dev nD := match r with | 0 => nxt c | 1 => prv c
def bwd (r : Fin 2) (c : Dev nD) : Dev nD := match r with | 0 => prv c | 1 => nxt c

/-! ## Transfers and slots -/

/-- A transfer: its kind, ring and segment. -/
abbrev X : Type := Fin 6 × Fin 2 × Fin 2

/-- The device a transfer of device `c` goes to, and the one whose transfer reaches `c`. -/
def tgt (x : X) (c : Dev nD) : Dev nD :=
  match x.1 with | 0 => fwd x.2.1 c | 1 => bwd x.2.1 c | 2 => fwd x.2.1 c | 3 => fwd x.2.1 c | 4 => fwd x.2.1 c | 5 => bwd x.2.1 c
def org (x : X) (c : Dev nD) : Dev nD :=
  match x.1 with | 0 => bwd x.2.1 c | 1 => fwd x.2.1 c | 2 => bwd x.2.1 c | 3 => bwd x.2.1 c | 4 => bwd x.2.1 c | 5 => fwd x.2.1 c

theorem tgt_org (x : X) (c : Dev nD) : tgt x (org x c) = c := by revert x c; decide
theorem org_tgt (x : X) (c : Dev nD) : org x (tgt x c) = c := by revert x c; decide

/-- Whether a transfer goes to the right neighbour. -/
def toNxt (x : X) : Bool := match x.1, x.2.1 with
  | 0, 0 => true | 2, 0 => true | 3, 0 => true | 4, 0 => true | 1, 1 => true | 5, 1 => true | _, _ => false
theorem tgt_of_toNxt (x : X) (c : Dev nD) : tgt x c = if toNxt x then nxt c else prv c := by revert x c; decide

/-- A slot of 128 rows: which buffer, ring, segment. The buffers: 0 the rows of `x`, 1 the device's own product, 2 the
    result, 3–5 the received rows, 6–8 the partial products, 9–11 the received partial products. -/
abbrev Slot : Type := Fin 12 × Fin 2 × Fin 2

/-- Where a transfer reads and where it writes. -/
def src (x : X) : Slot := match x.1 with
  | 0 => (0, x.2) | 1 => (0, x.2) | 2 => (3, x.2) | 3 => (7, x.2) | 4 => (6, x.2) | 5 => (8, x.2)
def dst (x : X) : Slot := match x.1 with
  | 0 => (3, x.2) | 1 => (4, x.2) | 2 => (5, x.2) | 3 => (9, x.2) | 4 => (10, x.2) | 5 => (11, x.2)

/-! ## The memrefs -/

abbrev xM : Memref sig .tc .vmem S512x512 .f32 := Memref.whole cc0_stg0_0
abbrev w1M : Memref sig .tc .vmem S512x2048 .f32 := Memref.whole cc0_stg1_0
abbrev w2M : Memref sig .tc .vmem S2048x512 .f32 := Memref.whole cc0_stg2_0
abbrev oM : Memref sig .tc .vmem S512x512 .f32 := Memref.whole cc0_stg3_0

def ownM (r : Fin 2) : Memref sig .tc .vmem S256x512 .f32 := match r with | 0 => Memref.whole cc0_scratch3 | 1 => Memref.whole cc0_scratch7
def xgM (r : Fin 2) : Memref sig .tc .vmem S3x256x512 .f32 := match r with | 0 => Memref.whole cc0_scratch0 | 1 => Memref.whole cc0_scratch4
def pM (r : Fin 2) : Memref sig .tc .vmem S3x256x512 .f32 := match r with | 0 => Memref.whole cc0_scratch1 | 1 => Memref.whole cc0_scratch5
def rinM (r : Fin 2) : Memref sig .tc .vmem S3x256x512 .f32 := match r with | 0 => Memref.whole cc0_scratch2 | 1 => Memref.whole cc0_scratch6

/-- 128 rows of a whole block, of an own-product buffer, of one third of a three-fold buffer. -/
theorem inb5 (r g : Fin 2) : ∀ a, (![256 * r.val + 128 * g.val, 0] : Fin 2 → ℕ) a + S128x512.size a ≤ S512x512.size a := by revert r g; decide
theorem inb2 (g : Fin 2) : ∀ a, (![128 * g.val, 0] : Fin 2 → ℕ) a + S128x512.size a ≤ S256x512.size a := by revert g; decide
theorem inb3 (i : Fin 3) (g : Fin 2) : ∀ a, (![i.val, 128 * g.val, 0] : Fin 3 → ℕ) a + S1x128x512.size a ≤ S3x256x512.size a := by revert i g; decide

abbrev rc5 (r g : Fin 2) : Rect S512x512 := Rect.unit (s := S512x512) ![256 * r.val + 128 * g.val, 0] S128x512.size (inb5 r g)
abbrev rc2 (g : Fin 2) : Rect S256x512 := Rect.unit (s := S256x512) ![128 * g.val, 0] S128x512.size (inb2 g)
abbrev rc3 (i : Fin 3) (g : Fin 2) : Rect S3x256x512 := Rect.unit (s := S3x256x512) ![i.val, 128 * g.val, 0] S1x128x512.size (inb3 i g)

abbrev sl5 (M : Memref sig .tc .vmem S512x512 .f32) (r g : Fin 2) : Memref sig .tc .vmem S128x512 .f32 := M.slice (rc5 r g) (fun _ => rfl)
abbrev sl2 (M : Memref sig .tc .vmem S256x512 .f32) (g : Fin 2) : Memref sig .tc .vmem S128x512 .f32 := M.slice (rc2 g) (fun _ => rfl)
abbrev sl3 (M : Memref sig .tc .vmem S3x256x512 .f32) (i : Fin 3) (g : Fin 2) : Memref sig .tc .vmem S128x512 .f32 :=
  (M.slice (rc3 i g) (fun _ => rfl)).squeeze S128x512 squeezes_S1x128x512_S128x512

/-- The memref of a slot. -/
def mr (s : Slot) : Memref sig .tc .vmem S128x512 .f32 := match s.1 with
  | 0 => sl5 xM s.2.1 s.2.2 | 1 => sl2 (ownM s.2.1) s.2.2 | 2 => sl5 oM s.2.1 s.2.2
  | 3 => sl3 (xgM s.2.1) 0 s.2.2 | 4 => sl3 (xgM s.2.1) 1 s.2.2 | 5 => sl3 (xgM s.2.1) 2 s.2.2
  | 6 => sl3 (pM s.2.1) 0 s.2.2 | 7 => sl3 (pM s.2.1) 1 s.2.2 | 8 => sl3 (pM s.2.1) 2 s.2.2
  | 9 => sl3 (rinM s.2.1) 0 s.2.2 | 10 => sl3 (rinM s.2.1) 1 s.2.2 | 11 => sl3 (rinM s.2.1) 2 s.2.2

/-! ## The semaphores -/

abbrev barS : Sem sig := (SemArray.scalar (sig.barrier 0 rfl) : Sems sig S_).sem

def sA (k : Fin 6) (r : Fin 2) : DmaSems sig S3x2 := match r, k with
  | 0, 0 => cc0_scratch8 | 0, 1 => cc0_scratch8 | 0, 2 => cc0_scratch8 | 0, 3 => cc0_scratch10 | 0, 4 => cc0_scratch10 | 0, 5 => cc0_scratch10
  | 1, 0 => cc0_scratch12 | 1, 1 => cc0_scratch12 | 1, 2 => cc0_scratch12 | 1, 3 => cc0_scratch14 | 1, 4 => cc0_scratch14 | 1, 5 => cc0_scratch14
def rA (k : Fin 6) (r : Fin 2) : DmaSems sig S3x2 := match r, k with
  | 0, 0 => cc0_scratch9 | 0, 1 => cc0_scratch9 | 0, 2 => cc0_scratch9 | 0, 3 => cc0_scratch11 | 0, 4 => cc0_scratch11 | 0, 5 => cc0_scratch11
  | 1, 0 => cc0_scratch13 | 1, 1 => cc0_scratch13 | 1, 2 => cc0_scratch13 | 1, 3 => cc0_scratch15 | 1, 4 => cc0_scratch15 | 1, 5 => cc0_scratch15

theorem inbS (k : Fin 6) (g : Fin 2) : ∀ a, (![k.val % 3, g.val] : Fin 2 → ℕ) a + S1x1.size a ≤ S3x2.size a := by revert k g; decide

/-- The send and the receive semaphore of a transfer. -/
def sS (x : X) : DmaSem sig :=
  (((sA x.1 x.2.1).slice (Rect.unit (s := S3x2) ![x.1.val % 3, x.2.2.val] S1x1.size (inbS x.1 x.2.2))).squeeze S_ squeezes_S1x1_S_).sem
def rS (x : X) : DmaSem sig :=
  (((rA x.1 x.2.1).slice (Rect.unit (s := S3x2) ![x.1.val % 3, x.2.2.val] S1x1.size (inbS x.1 x.2.2))).squeeze S_ squeezes_S1x1_S_).sem

/-- The transfer a DMA semaphore belongs to, and whether it is its receive semaphore. -/
def kOf (n : ℕ) : X := (Fin.ofNat 6 (3 * ((n - 4) % 24 / 12) + (n - 4) % 6 / 2), Fin.ofNat 2 ((n - 4) / 24), Fin.ofNat 2 ((n - 4) % 2))
def isR (n : ℕ) : Bool := decide ((n - 4) % 12 / 6 = 1)

theorem sS_facts : ∀ x : X, 4 ≤ (sS x).val ∧ isR (sS x).val = false ∧ kOf (sS x).val = x := by decide
theorem rS_facts : ∀ x : X, 4 ≤ (rS x).val ∧ isR (rS x).val = true ∧ kOf (rS x).val = x := by decide

end Cert.KProof

end
-- ==== Proof.Sched.lean ====
/-
# Contents, schedule and levels

What every transfer carries, as a function of the launch memory; the rounds schedule over all semaphores of the kernel; the
order in which the transfers start, which is the order of the levels, and what a device owes at any moment of it.
-/
module

public import proofs.«01_k».proof.Proof.Ring

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Contents -/

/-- 128 rows of 512 numbers. -/
abbrev V (F : FTy → Type) [FloatOps F] : Type := FVec F S128x512 .f32

/-- The function of a block of rows: times the first matrix, `h / (1 + exp (-h))`, times the second. -/
def ffn (x : V F) (w1 : FVec F S512x2048 .f32) (w2 : FVec F S2048x512 .f32) : V F := k0_pay2 (k0_pay1 x w1) w2

variable (m : (ℓ : Loc nD τ sig) → Buf (Elt F) ℓ)

/-- The staged blocks of device `c`: its rows, its columns of the first matrix, its rows of the second. -/
def xstg (c : Dev nD) : (cc0_stg0_0 : Ref sig .tc).ty.Contents (Elt F) := (win0_0.blk (0 : Fin 1)).view.read (Elt F) (m ((c : Thread nD τ).loc main_arg0))
def w1stg (c : Dev nD) : (cc0_stg1_0 : Ref sig .tc).ty.Contents (Elt F) := (win0_1.blk (0 : Fin 1)).view.read (Elt F) (m ((c : Thread nD τ).loc main_arg1))
def w2stg (c : Dev nD) : (cc0_stg2_0 : Ref sig .tc).ty.Contents (Elt F) := (win0_2.blk (0 : Fin 1)).view.read (Elt F) (m ((c : Thread nD τ).loc main_arg2))

/-- Device `c`'s rows of ring `r`, segment `g`. -/
def xs (c : Dev nD) (r g : Fin 2) : V F := fun j => xstg m c ((rc5 r g).emb j)

/-- The function with device `c`'s matrices. -/
def fc (c : Dev nD) (x : V F) : V F := ffn x (w1stg m c) (w2stg m c)

/-- What device `c` sends on ring `r`, segment `g`, by kind; `early` is kind 3, `comb` kind 4. -/
def early (c : Dev nD) (r g : Fin 2) : V F := fc m c (xs m (bwd r (bwd r c)) r g)
def comb (c : Dev nD) (r g : Fin 2) : V F := addf (fc m c (xs m (fwd r c) r g)) (early m (bwd r c) r g)
def sv (x : X) (c : Dev nD) : V F := match x.1 with
  | 0 => xs m c x.2.1 x.2.2 | 1 => xs m c x.2.1 x.2.2 | 2 => xs m (bwd x.2.1 c) x.2.1 x.2.2
  | 3 => early m c x.2.1 x.2.2 | 4 => comb m c x.2.1 x.2.2 | 5 => fc m c (xs m (bwd x.2.1 c) x.2.1 x.2.2)
/-- What reaches device `c`. -/
def rv (x : X) (c : Dev nD) : V F := sv m x (org x c)

/-- Device `c`'s result on ring `r`, segment `g`. -/
def res (c : Dev nD) (r g : Fin 2) : V F := addf (addf (fc m c (xs m c r g)) (rv m (4, r, g) c)) (rv m (5, r, g) c)

/-! ## Cells and payloads -/

abbrev N : ℕ := (mr (0, 0, 0)).view.dmaCredit
theorem N_pos : 0 < N := View.dmaCredit_pos _ (by decide)

abbrev barCell (c : Dev nD) : GSem nD τ sig := ((c : Thread nD τ), .reg barS)
abbrev sendCell (c : Dev nD) (x : X) : GSem nD τ sig := ((c : Thread nD τ), .dma (sS x))
abbrev recvCell (c : Dev nD) (x : X) : GSem nD τ sig := ((c : Thread nD τ), .dma (rS x))

/-- The share of its source a transfer takes: the device keeps half of the rows it works on while they travel. -/
def shr (k : Fin 6) : PosShare TreeShare := match k with
  | 0 => fullShare.right.left | 1 => fullShare.right.right | 2 => fullShare.right | 3 => fullShare | 4 => fullShare | 5 => fullShare

def sendPay (x : X) (c : Dev nD) : sProp 𝕄 := owns (c : Thread nD τ) (mr (src x)) (shr x.1) (sv m x c)
def recvPay (x : X) (c : Dev nD) : sProp 𝕄 := owns (c : Thread nD τ) (mr (dst x)) fullShare (rv m x c)
/-- The landing slot of `x` on device `c`, at any contents. -/
def land (c : Dev nD) (x : X) : sProp 𝕄 := iprop(∃ v : V F, owns (c : Thread nD τ) (mr (dst x)) fullShare v)
/-- What a neighbour's signal hands device `c`: the landing slots on that neighbour (`true`: the right one). -/
def barPay (d : Bool) (c : Dev nD) : sProp 𝕄 := bigSep (Finset.univ.filter fun x : X => toNxt x = d) fun x => land (tgt x c) x

instance sendPay_storable (x : X) (c : Dev nD) : BI.Storable (upEmb : UEmb _ 𝕄) (sendPay m x c) := by unfold sendPay; infer_instance
instance recvPay_storable (x : X) (c : Dev nD) : BI.Storable (upEmb : UEmb _ 𝕄) (recvPay m x c) := by unfold recvPay; infer_instance
instance land_storable (c : Dev nD) (x : X) : BI.Storable (upEmb : UEmb _ 𝕄) (land (F := F) c x) := by unfold land; infer_instance
instance barPay_storable (d : Bool) (c : Dev nD) : BI.Storable (upEmb : UEmb _ 𝕄) (barPay (F := F) d c) := by unfold barPay; infer_instance

/-- The payload of a semaphore's one round. -/
def payOf (sm : SemLoc sig) (c : Dev nD) (d : Bool) : sProp 𝕄 := match sm with
  | .reg _ => barPay d c
  | .dma q => if isR q.val then recvPay m (kOf q.val) c else sendPay m (kOf q.val) c
def dutOf (sm : SemLoc sig) : Finset Bool := match sm with
  | .reg s => if s = barS then Finset.univ else ∅
  | .dma q => if 4 ≤ q.val then {false} else ∅
def amtOf (sm : SemLoc sig) : ℕ := match sm with | .reg _ => 1 | .dma _ => N

instance payOf_storable (sm : SemLoc sig) (c : Dev nD) (d : Bool) : BI.Storable (upEmb : UEmb _ 𝕄) (payOf m sm c d) := by
  cases sm with
  | reg s => exact barPay_storable d c
  | dma q => unfold payOf; dsimp only; split <;> infer_instance

/-- One round per semaphore of the kernel. -/
def Rd : Rounds.Schedule (GSem nD τ sig) Bool 𝕄 where
  duties g r := if r = 0 ∧ g.1.2 = .tc then dutOf g.2 else ∅
  unitless _ := False
  amount g _ _ := amtOf g.2
  payload g _ d := payOf m g.2 g.1.1 d
  amount_pos g _ _ _ := by
    obtain ⟨t, sm⟩ := g
    cases sm with
    | reg s => exact Nat.one_pos
    | dma q => exact N_pos

instance Rd_payload_storable (g : GSem nD τ sig) (r : ℕ) (d : Bool) : BI.Storable (upEmb : UEmb _ 𝕄) ((Rd m).payload g r d) :=
  payOf_storable m g.2 g.1.1 d

section Sched
variable (c : Dev nD) (x : X)

theorem Rd_duties (sm : SemLoc sig) : (Rd m).duties ((c : Thread nD τ), sm) 0 = dutOf sm := by dsimp only [Rd]; exact if_pos ⟨rfl, rfl⟩
theorem dutOf_send : dutOf (.dma (sS x)) = {false} := if_pos (sS_facts x).1
theorem dutOf_recv : dutOf (.dma (rS x)) = {false} := if_pos (rS_facts x).1
theorem duties_bar : (Rd m).duties (barCell c) 0 = Finset.univ := (Rd_duties m c _).trans (by dsimp only [dutOf]; exact if_pos rfl)
theorem duties_send : (Rd m).duties (sendCell c x) 0 = {false} := (Rd_duties m c _).trans (dutOf_send x)
theorem duties_recv : (Rd m).duties (recvCell c x) 0 = {false} := (Rd_duties m c _).trans (dutOf_recv x)
theorem duties_later (g : GSem nD τ sig) : ∀ r, 1 ≤ r → (Rd m).duties g r = ∅ := fun r hr => if_neg fun h => by omega

theorem payload_send (d : Bool) : (Rd m).payload (sendCell c x) 0 d = sendPay m x c := by
  show (if isR (sS x).val then recvPay m (kOf (sS x).val) c else sendPay m (kOf (sS x).val) c) = _
  rw [(sS_facts x).2.1, (sS_facts x).2.2]; rfl
theorem payload_recv (d : Bool) : (Rd m).payload (recvCell c x) 0 d = recvPay m x c := by
  show (if isR (rS x).val then recvPay m (kOf (rS x).val) c else sendPay m (kOf (rS x).val) c) = _
  rw [(rS_facts x).2.1, (rS_facts x).2.2]; rfl

theorem expect_bar : (Rd m).expect (barCell c) 0 = 2 := by
  unfold Schedule.expect Schedule.amountOf; rw [duties_bar]; rfl
theorem expect_send : (Rd m).expect (sendCell c x) 0 = N := by
  unfold Schedule.expect Schedule.amountOf; rw [duties_send, Finset.sum_singleton]; rfl
theorem expect_recv : (Rd m).expect (recvCell c x) 0 = N := by
  unfold Schedule.expect Schedule.amountOf; rw [duties_recv, Finset.sum_singleton]; rfl

theorem rest_bar : bigSep ((Rd m).duties (barCell c) 0 \ ∅) (fun d => (Rd m).payload (barCell c) 0 d) = iprop(barPay false c ∗ barPay true c) := by
  rw [Finset.sdiff_empty, duties_bar, bigSep_univ_eq_bigSepL [false, true] (by decide) (by decide), bigSepL_cons_cons, bigSepL_singleton]
  rfl
theorem rest_send : bigSep ((Rd m).duties (sendCell c x) 0 \ ∅) (fun d => (Rd m).payload (sendCell c x) 0 d) = sendPay m x c := by
  rw [Finset.sdiff_empty, duties_send, bigSep_singleton, payload_send]
theorem rest_recv : bigSep ((Rd m).duties (recvCell c x) 0 \ ∅) (fun d => (Rd m).payload (recvCell c x) 0 d) = recvPay m x c := by
  rw [Finset.sdiff_empty, duties_recv, bigSep_singleton, payload_recv]

end Sched

/-! ## Order of the starts, dues and levels -/

/-- The transfers in the order they start. -/
def SL : List X :=
  [(0,0,0), (0,1,0), (0,0,1), (0,1,1), (1,0,0), (1,1,0), (2,0,0), (2,1,0), (1,0,1), (1,1,1), (2,0,1), (2,1,1),
   (5,0,0), (5,1,0), (5,0,1), (5,1,1), (3,0,0), (3,1,0), (3,0,1), (3,1,1), (4,0,0), (4,1,0), (4,0,1), (4,1,1)]
/-- The transfers in the order they are waited for. -/
def WL : List X :=
  [(0,0,0), (0,1,0), (0,0,1), (0,1,1), (1,0,0), (1,1,0), (1,0,1), (1,1,1), (2,0,0), (2,1,0), (2,0,1), (2,1,1),
   (3,0,0), (3,1,0), (3,0,1), (3,1,1), (5,0,0), (4,0,0), (5,1,0), (4,1,0), (5,0,1), (4,0,1), (5,1,1), (4,1,1)]

theorem SL_univ : (Finset.univ : Finset X) = SL.toFinset := by decide
theorem SL_nodup : SL.Nodup := by decide
theorem WL_univ : (Finset.univ : Finset X) = WL.toFinset := by decide
theorem WL_nodup : WL.Nodup := by decide

/-- What device `c` owes while the transfers of `l` are still to start. -/
def owe (c : Dev nD) : List X → CellTallies nD τ sig Unit
  | [] => 0
  | x :: l => owe c l + tallyAt (recvCell (tgt x c) x) () N

/-- The place of a transfer in the order of the starts. -/
def lx (x : X) : ℕ := 2 + SL.idxOf x

def L (g : GSem nD τ sig) : Finset Unit := if g.1.2 = .tc then {()} else ∅
/-- Staging and send semaphores at 0, the barrier at 1, receive semaphores by the order of the starts. -/
def lv (g : GSem nD τ sig) (_ : Unit) : ℕ := match g.2 with
  | .reg _ => 1
  | .dma q => if 4 ≤ q.val ∧ isR q.val = true then lx (kOf q.val) else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (x : X) (u : Unit) : lv (recvCell c x) u = lx x := by
  show (if 4 ≤ (rS x).val ∧ isR (rS x).val = true then lx (kOf (rS x).val) else 0) = _
  rw [if_pos ⟨(rS_facts x).1, (rS_facts x).2.1⟩, (rS_facts x).2.2]
theorem lv_send (c : Dev nD) (x : X) (u : Unit) : lv (sendCell c x) u = 0 := by
  show (if 4 ≤ (sS x).val ∧ isR (sS x).val = true then lx (kOf (sS x).val) else 0) = _
  rw [if_neg fun h => by rw [(sS_facts x).2.1] at h; exact absurd h.2 Bool.false_ne_true]

theorem owe_pos {c : Dev nD} {l : List X} {g : GSem nD τ sig} {u : Unit} (h : 0 < owe c l g u) : ∃ y ∈ l, g = recvCell (tgt y c) y := by
  induction l with
  | nil => exact absurd h (Nat.lt_irrefl 0)
  | cons x l ih =>
    unfold owe at h
    rw [Pi.add_apply, Finsupp.add_apply, tallyAt_apply] at h
    by_cases hx : g = recvCell (tgt x c) x ∧ u = ()
    · exact ⟨x, List.mem_cons_self, hx.1⟩
    · rw [if_neg hx, Nat.add_zero] at h
      obtain ⟨y, hy, e⟩ := ih h
      exact ⟨y, List.mem_cons_of_mem _ hy, e⟩

/-- A device may wait at a cell whose level is below that of every transfer it has still to start. -/
theorem mayWait_owe (c : Dev nD) (sm : SemLoc sig) (b : ℕ) (hb : lv ((c : Thread nD τ), sm) () = b) (l : List X) (hl : ∀ y ∈ l, b < lx y) :
    (levAts L lv : sProp 𝕄) ⊢ MayWait (c : Thread nD τ) sm () (owe c l) :=
  MayOwe.of_cut (L := L) (lev := lv) b (fun p hp => by rw [Finset.mem_singleton.mp hp, L_tc]; exact Finset.mem_singleton_self _)
    (fun g u hg => by obtain ⟨y, -, rfl⟩ := owe_pos hg; exact Finset.mem_singleton_self _)
    (fun p hp => by rw [Finset.mem_singleton.mp hp]; exact le_of_eq hb)
    (fun g u hg => by obtain ⟨y, hy, rfl⟩ := owe_pos hg; rw [lv_recv]; exact hl y hy)

end Cert.KProof

end
-- ==== Proof.Steps.lean ====
/-
# One lemma per kind of operation

`ST m K c s` is what device `c` holds in the middle of the kernel: the contents of every slot it can name, the two
matrices, and, for every transfer, what its progress leaves it with. Each lemma below runs one operation of the kernel from
one such state to the next.
-/
module

public import proofs.«01_k».proof.Proof.Sched
public import Idealize.ShloMosaic.Lib.Pipeline.BigSepL

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## The cells of the kernel, named -/

/-- The barrier, or a transfer's send (`false`) or receive (`true`) semaphore. -/
abbrev CK : Type := Option (X × Bool)
def csem : CK → SemLoc sig
  | none => .reg barS
  | some (x, false) => .dma (sS x)
  | some (x, true) => .dma (rS x)
abbrev kcell (ck : Dev nD × CK) : GSem nD τ sig := ((ck.1 : Thread nD τ), csem ck.2)

/-- Every cell's invariant, under the names `K`, and that every cell has reached its round. -/
def records (K : Dev nD × CK → ℕ) : sProp 𝕄 :=
  bigSep Finset.univ fun ck : Dev nD × CK => iprop(cellInv ER (Rd m) (K ck) (kcell ck) ∗ reached ER (kcell ck) 0)

instance records_persistent (K : Dev nD × CK → ℕ) : BI.Persistent (records m K) := by unfold records; infer_instance

variable (K : Dev nD × CK → ℕ)

theorem rec_at (ck : Dev nD × CK) : records m K ⊢ iprop(cellInv ER (Rd m) (K ck) (kcell ck) ∗ reached ER (kcell ck) 0) :=
  BI.bigSep_elim (Finset.mem_univ ck)
theorem rec_bar (c : Dev nD) : records m K ⊢ iprop(cellInv ER (Rd m) (K (c, none)) (barCell c) ∗ reached ER (barCell c) 0) := rec_at m K (c, none)
theorem rec_send (c : Dev nD) (x : X) :
    records m K ⊢ iprop(cellInv ER (Rd m) (K (c, some (x, false))) (sendCell c x) ∗ reached ER (sendCell c x) 0) := rec_at m K (c, some (x, false))
theorem rec_recv (c : Dev nD) (x : X) :
    records m K ⊢ iprop(cellInv ER (Rd m) (K (c, some (x, true))) (recvCell c x) ∗ reached ER (recvCell c x) 0) := rec_at m K (c, some (x, true))

/-! ## Slots -/

/-- What the device holds of a slot: nothing, the slot at any contents, the slot or one half of it at given contents. -/
inductive St (F : FTy → Type) [FloatOps F] where
  | gone | any | full (v : V F) | half (v : V F)

def St.res (c : Dev nD) (sl : Slot) : St F → sProp 𝕄
  | .gone => iprop(emp)
  | .any => iprop(∃ v : V F, owns (c : Thread nD τ) (mr sl) fullShare v)
  | .full v => owns (c : Thread nD τ) (mr sl) fullShare v
  | .half v => owns (c : Thread nD τ) (mr sl) fullShare.left v

theorem res_gone (c : Dev nD) (sl : Slot) : St.res (F := F) c sl .gone = iprop(emp) := rfl
theorem res_any (c : Dev nD) (sl : Slot) : St.res (F := F) c sl .any = iprop(∃ v : V F, owns (c : Thread nD τ) (mr sl) fullShare v) := rfl
theorem res_full (c : Dev nD) (sl : Slot) (v : V F) : St.res c sl (.full v) = owns (c : Thread nD τ) (mr sl) fullShare v := rfl
theorem res_half (c : Dev nD) (sl : Slot) (v : V F) : St.res c sl (.half v) = owns (c : Thread nD τ) (mr sl) fullShare.left v := rfl

def St.val : St F → Option (V F) | .gone => none | .any => none | .full v => some v | .half v => some v
def St.free : St F → Bool | .gone => false | .any => true | .full _ => true | .half _ => false

def key (sl : Slot) : ℕ := 4 * sl.1.val + 2 * sl.2.1.val + sl.2.2.val
theorem key_inj {a b : Slot} (h : key a = key b) : a = b := by
  obtain ⟨a, r, g⟩ := a; obtain ⟨a', r', g'⟩ := b
  have h1 := r.isLt; have h2 := r'.isLt; have h3 := g.isLt; have h4 := g'.isLt
  unfold key at h; dsimp only at h
  refine Prod.ext (Fin.ext ?_) (Prod.ext (Fin.ext ?_) (Fin.ext ?_)) <;> dsimp only <;> omega

def upd (mem : Slot → St F) (i : Slot) (st : St F) : Slot → St F := fun j => bif Nat.beq (key j) (key i) then st else mem j

theorem upd_self (mem : Slot → St F) (i : Slot) (st : St F) : upd mem i st i = st := by
  unfold upd; rw [Nat.beq_refl]; rfl
theorem upd_ne (mem : Slot → St F) {i j : Slot} (st : St F) (h : j ≠ i) : upd mem i st j = mem j := by
  unfold upd
  rw [show Nat.beq (key j) (key i) = false from by
    rw [← Bool.not_eq_true]; exact fun e => h (key_inj (Nat.eq_of_beq_eq_true e))]
  rfl

def slots (c : Dev nD) (mem : Slot → St F) : sProp 𝕄 := bigSep Finset.univ fun sl : Slot => St.res c sl (mem sl)

theorem slots_at (c : Dev nD) (mem : Slot → St F) (i : Slot) (st : St F) (h : mem i = st) :
    slots c mem = iprop(St.res c i st ∗ bigSep (Finset.univ.erase i) fun sl => St.res c sl (mem sl)) := by
  subst h; exact bigSep_univ_at _ i
theorem slots_upd (c : Dev nD) (mem : Slot → St F) (i : Slot) (st : St F) :
    slots c (upd mem i st) = iprop(St.res c i st ∗ bigSep (Finset.univ.erase i) fun sl => St.res c sl (mem sl)) := by
  unfold slots
  rw [bigSep_univ_at _ i, upd_self]
  exact congrArg _ (bigSep_congr fun j hj => by rw [upd_ne _ _ (Finset.ne_of_mem_erase hj)])
/-- A slot taken out and put back in the same state. -/
theorem slots_same (c : Dev nD) (mem : Slot → St F) (i : Slot) : upd mem i (mem i) = mem := by
  funext j
  by_cases h : j = i
  · rw [h, upd_self]
  · rw [upd_ne _ _ h]

/-! ## Transfers -/

/-- A transfer yet to start: its two duties, its place on its send semaphore, the landing slot, and for the two kinds that
    send the device's own rows a share of those. -/
def pend (c : Dev nD) (x : X) : sProp 𝕄 :=
  iprop(dutyTok ER (sendCell c x) 0 false ∗ dutyTok ER (recvCell (tgt x c) x) 0 false ∗ atPos ER (sendCell c x) 0 ∅ 0
    ∗ land (tgt x c) x ∗ (if x.1.val < 2 then sendPay m x c else iprop(emp)))
def waitTok (c : Dev nD) (x : X) : sProp 𝕄 := iprop(atPos ER (recvCell c x) 0 ∅ 0 ∗ cred (tallyAt (recvCell c x) () N))
def sentTok (c : Dev nD) (x : X) : sProp 𝕄 := iprop(atPos ER (sendCell c x) 0 ∅ 0 ∗ cred (tallyAt (sendCell c x) () N))
def gotRes (c : Dev nD) (x : X) : sProp 𝕄 := semVal (recvCell c x) 0
def backRes (c : Dev nD) (x : X) : sProp 𝕄 := iprop(semVal (sendCell c x) 0 ∗ sendPay m x c)

structure State (F : FTy → Type) [FloatOps F] where
  mem : Slot → St F
  todo : List X
  wait : List X
  sent : List X
  got : List X
  back : List X

def ST (c : Dev nD) (s : State F) : sProp 𝕄 :=
  iprop(records m K ∗ levAts L lv ∗ slots c s.mem ∗ owns (c : Thread nD τ) w1M fullShare (w1stg m c) ∗ owns (c : Thread nD τ) w2M fullShare (w2stg m c)
    ∗ (∃ W, owes (c : Thread nD τ) (owe c s.todo) W)
    ∗ bigSepL s.todo (pend m c) ∗ bigSepL s.wait (waitTok c) ∗ bigSepL s.sent (sentTok c) ∗ bigSepL s.got (gotRes c) ∗ bigSepL s.back (backRes m c))

/-- A slot written. -/
def State.put (s : State F) (i : Slot) (v : V F) : State F := { s with mem := upd s.mem i (.full v) }
/-- A transfer of the device's own rows started; one that leaves half of its source; one that takes all of it. -/
def State.start0 (s : State F) (x : X) : State F := { s with todo := s.todo.tail, sent := s.sent ++ [x] }
def State.start2 (m : (ℓ : Loc nD τ sig) → Buf (Elt F) ℓ) (c : Dev nD) (s : State F) (x : X) : State F :=
  { s with mem := upd s.mem (src x) (.half (sv m x c)), todo := s.todo.tail, sent := s.sent ++ [x] }
def State.start3 (s : State F) (x : X) : State F :=
  { s with mem := upd s.mem (src x) .gone, todo := s.todo.tail, sent := s.sent ++ [x] }
/-- A transfer received; one's own transfer waited for. -/
def State.recv (m : (ℓ : Loc nD τ sig) → Buf (Elt F) ℓ) (c : Dev nD) (s : State F) (x : X) : State F :=
  { s with mem := upd s.mem (dst x) (.full (rv m x c)), wait := s.wait.tail, got := x :: s.got }
def State.ret (s : State F) (x : X) : State F := { s with sent := s.sent.tail, back := x :: s.back }

theorem credit (sl : Slot) : (mr sl).view.dmaCredit = N := by
  obtain ⟨a, r, g⟩ := sl
  fin_cases a <;> fin_cases r <;> rfl

/-! ## Starting a transfer -/

/-- The send rule at a transfer of the kernel, its source owned at the share and contents the schedule names. -/
theorem send_at (c : Dev nD) (x : X) {α : Type} {Kt : α → sProp 𝕄}
    {hsc : (mr (dst x)).view.ref.isScScratch = false} {hsrc : (mr (src x)).view.WordExact} {hdst : (mr (dst x)).view.WordExact}
    {hsem : DmaTarget.Typed .vmem (.dma (rS x)) (.remote (Dev.tc (tgt x c) : Thread nD τ) (mr (dst x)) (.dma (sS x)) hsc)}
    {k : PUnit → Prog (TpuEff nD τ sig (Elt F) Λ₀ .tc) α} (l : List X) (W : Waits sig Unit) :
    iprop(records m K ∗ sendPay m x c ∗ land (tgt x c) x ∗ owes (c : Thread nD τ) (owe c (x :: l)) W
        ∗ dutyTok ER (sendCell c x) 0 false ∗ dutyTok ER (recvCell (tgt x c) x) 0 false)
      ⊢ iprop(((cred (tallyAt (sendCell c x) () N) ∗ owes (c : Thread nD τ) (owe c l) W)
            -∗ wp frame (wpE (defs₀ (F := F)) 𝒱₀ (c : Thread nD τ) none) Set.univ (k ⟨⟩) Kt)
          -∗ wp frame (wpE (defs₀ (F := F)) 𝒱₀ (c : Thread nD τ) none) Set.univ
              (.op (.enqueueDma (mr (src x)) (.remote (Dev.tc (tgt x c) : Thread nD τ) (mr (dst x)) (.dma (sS x)) hsc) (.dma (rS x)) hsrc hdst hsem) k) Kt) := by
  iintro ⟨#HR, Hs, Hl, HO, Ht1, Ht2⟩
  ihave HR1 := (rec_send m K c x) $$ HR
  icases HR1 with ⟨#HI1, #Hr1⟩
  ihave HR2 := (rec_recv m K (tgt x c) x) $$ HR
  icases HR2 with ⟨#HI2, #Hr2⟩
  unfold sendPay land owns
  icases Hs with ⟨%fs, %hfs, Hs⟩
  icases Hl with ⟨%v, %fd, %hfd, Hl⟩
  iapply (Rounds.wp_send_pointsTo 𝒱₀ ER (Rd m) (c : Thread nD τ) none (κ₁ := K (c, some (x, false))) (κ₂ := K (tgt x c, some (x, true)))
    (r₁ := 0) (r₂ := 0) (d₁ := false) (d₂ := false) (fd := fd)
    (by rw [duties_send]; exact Finset.mem_singleton_self _) (by rw [duties_recv]; exact Finset.mem_singleton_self _)
    () () N (by exact credit (dst x)) rfl rfl (owe c l) rfl (W := W)
    (by rw [payload_send]; unfold sendPay; rw [← hfs]; exact owns_intro _ _ _ _)
    (by
      rw [payload_recv]; unfold recvPay rv
      rw [org_tgt, ← hfs]
      refine (owns_intro _ _ _ _).trans (Entails.of_eq ?_)
      rw [View.read_write_univ])) $$ [Hs Hl HO Ht1 Ht2]
  · isplitr; · iexact HI1
    isplitr; · iexact HI2
    isplitl [Hs]; · iexact Hs
    isplitl [Hl]; · iexact Hl
    isplitl [HO]; · iexact HO
    isplitl [Ht1]; · iexact Ht1
    isplitr; · iexact Hr1
    isplitl [Ht2]; · iexact Ht2
    iexact Hr2

section Rules

/-- Start of a transfer of the device's own rows. -/
theorem start0 {c : Dev nD} {s : State F} {α : Type} {Kt : α → sProp 𝕄} (x : X) (hx : x.1.val < 2) (ht : s.todo = x :: s.todo.tail) {c' : Dev nD} (hc : c' = tgt x c)
    {S D : Memref sig .tc .vmem S128x512 .f32} (hS : S = mr (src x)) (hD : D = mr (dst x)) {q1 q2 : DmaSem sig} (h1 : q1 = sS x) (h2 : q2 = rS x)
    {hsc : D.view.ref.isScScratch = false} {hsrc : S.view.WordExact} {hdst : D.view.WordExact}
    {hsem : DmaTarget.Typed .vmem (.dma q2) (.remote (Dev.tc c' : Thread nD τ) D (.dma q1) hsc)}
    {k : PUnit → Prog (TpuEff nD τ sig (Elt F) Λ₀ .tc) α} :
    iprop(ST m K c s ∗ (ST m K c (s.start0 x) -∗ wp frame (wpE (defs₀ (F := F)) 𝒱₀ (c : Thread nD τ) none) Set.univ (k ⟨⟩) Kt))
      ⊢ wp frame (wpE (defs₀ (F := F)) 𝒱₀ (c : Thread nD τ) none) Set.univ (.op (.enqueueDma S (.remote (Dev.tc c' : Thread nD τ) D (.dma q1) hsc) (.dma q2) hsrc hdst hsem) k) Kt := by
  subst hc hS hD h1 h2
  unfold ST State.start0
  dsimp only
  rw [ht, List.tail_cons, bigSepL_cons', bigSepL_append, bigSepL_singleton]
  unfold pend sentTok
  rw [if_pos hx]
  iintro ⟨⟨#HR, #Hlev, Hm, Hw1, Hw2, ⟨%W, HO⟩, ⟨⟨Ht1, Ht2, Hat, Hl, Hs⟩, Hp⟩, Hwt, Hst, Hg, Hb⟩, Hk⟩
  iapply (send_at m K c x (hsc := hsc) (hsrc := hsrc) (hdst := hdst) (hsem := hsem) (k := k) (Kt := Kt) s.todo.tail W) $$ [Hs Hl HO Ht1 Ht2]
  · isplitr; · iexact HR
    isplitl [Hs]; · iexact Hs
    isplitl [Hl]; · iexact Hl
    isplitl [HO]; · iexact HO
    isplitl [Ht1] <;> iassumption
  iintro ⟨Hcr, HO⟩
  iapply Hk
  isplitr; · iexact HR
  isplitr; · iexact Hlev
  isplitl [Hm]; · iexact Hm
  isplitl [Hw1]; · iexact Hw1
  isplitl [Hw2]; · iexact Hw2
  isplitl [HO]; · iexists W; iexact HO
  isplitl [Hp]; · iexact Hp
  isplitl [Hwt]; · iexact Hwt
  isplitl [Hst Hat Hcr]
  · isplitl [Hst]; · iexact Hst
    isplitl [Hat] <;> iassumption
  isplitl [Hg] <;> iassumption

/-- Start of a transfer of the rows received forward: half of them stays. -/
theorem start2 {c : Dev nD} {s : State F} {α : Type} {Kt : α → sProp 𝕄} (x : X) (hx : x.1 = 2) (ht : s.todo = x :: s.todo.tail) (hm : s.mem (src x) = .full (sv m x c)) {c' : Dev nD} (hc : c' = tgt x c)
    {S D : Memref sig .tc .vmem S128x512 .f32} (hS : S = mr (src x)) (hD : D = mr (dst x)) {q1 q2 : DmaSem sig} (h1 : q1 = sS x) (h2 : q2 = rS x)
    {hsc : D.view.ref.isScScratch = false} {hsrc : S.view.WordExact} {hdst : D.view.WordExact}
    {hsem : DmaTarget.Typed .vmem (.dma q2) (.remote (Dev.tc c' : Thread nD τ) D (.dma q1) hsc)}
    {k : PUnit → Prog (TpuEff nD τ sig (Elt F) Λ₀ .tc) α} :
    iprop(ST m K c s ∗ (ST m K c (State.start2 m c s x) -∗ wp frame (wpE (defs₀ (F := F)) 𝒱₀ (c : Thread nD τ) none) Set.univ (k ⟨⟩) Kt))
      ⊢ wp frame (wpE (defs₀ (F := F)) 𝒱₀ (c : Thread nD τ) none) Set.univ (.op (.enqueueDma S (.remote (Dev.tc c' : Thread nD τ) D (.dma q1) hsc) (.dma q2) hsrc hdst hsem) k) Kt := by
  subst hc hS hD h1 h2
  unfold ST State.start2
  dsimp only
  rw [ht, List.tail_cons, bigSepL_cons', bigSepL_append, bigSepL_singleton, slots_at c s.mem (src x) _ hm, slots_upd, res_full, res_half]
  unfold pend sentTok
  iintro ⟨⟨#HR, #Hlev, ⟨Hs, Hm⟩, Hw1, Hw2, ⟨%W, HO⟩, ⟨⟨Ht1, Ht2, Hat, Hl, -⟩, Hp⟩, Hwt, Hst, Hg, Hb⟩, Hk⟩
  ihave Hs2 := (owns_halves (c : Thread nD τ) (mr (src x)) fullShare (sv m x c)).1 $$ Hs
  icases Hs2 with ⟨Hsl, Hs⟩
  iapply (send_at m K c x (hsc := hsc) (hsrc := hsrc) (hdst := hdst) (hsem := hsem) (k := k) (Kt := Kt) s.todo.tail W) $$ [Hs Hl HO Ht1 Ht2]
  · isplitr; · iexact HR
    isplitl [Hs]; · unfold sendPay; rw [hx]; iexact Hs
    isplitl [Hl]; · iexact Hl
    isplitl [HO]; · iexact HO
    isplitl [Ht1] <;> iassumption
  iintro ⟨Hcr, HO⟩
  iapply Hk
  isplitr; · iexact HR
  isplitr; · iexact Hlev
  isplitl [Hm Hsl]
  · isplitl [Hsl]; · iexact Hsl
    iexact Hm
  isplitl [Hw1]; · iexact Hw1
  isplitl [Hw2]; · iexact Hw2
  isplitl [HO]; · iexists W; iexact HO
  isplitl [Hp]; · iexact Hp
  isplitl [Hwt]; · iexact Hwt
  isplitl [Hst Hat Hcr]
  · isplitl [Hst]; · iexact Hst
    isplitl [Hat] <;> iassumption
  isplitl [Hg] <;> iassumption

/-- Start of a transfer of a partial product: all of it goes. -/
theorem start3 {c : Dev nD} {s : State F} {α : Type} {Kt : α → sProp 𝕄} (x : X) (hx : shr x.1 = fullShare) (ht : s.todo = x :: s.todo.tail) (hm : s.mem (src x) = .full (sv m x c)) {c' : Dev nD} (hc : c' = tgt x c)
    {S D : Memref sig .tc .vmem S128x512 .f32} (hS : S = mr (src x)) (hD : D = mr (dst x)) {q1 q2 : DmaSem sig} (h1 : q1 = sS x) (h2 : q2 = rS x)
    {hsc : D.view.ref.isScScratch = false} {hsrc : S.view.WordExact} {hdst : D.view.WordExact}
    {hsem : DmaTarget.Typed .vmem (.dma q2) (.remote (Dev.tc c' : Thread nD τ) D (.dma q1) hsc)}
    {k : PUnit → Prog (TpuEff nD τ sig (Elt F) Λ₀ .tc) α} :
    iprop(ST m K c s ∗ (ST m K c (s.start3 x) -∗ wp frame (wpE (defs₀ (F := F)) 𝒱₀ (c : Thread nD τ) none) Set.univ (k ⟨⟩) Kt))
      ⊢ wp frame (wpE (defs₀ (F := F)) 𝒱₀ (c : Thread nD τ) none) Set.univ (.op (.enqueueDma S (.remote (Dev.tc c' : Thread nD τ) D (.dma q1) hsc) (.dma q2) hsrc hdst hsem) k) Kt := by
  subst hc hS hD h1 h2
  unfold ST State.start3
  dsimp only
  rw [ht, List.tail_cons, bigSepL_cons', bigSepL_append, bigSepL_singleton, slots_at c s.mem (src x) _ hm, slots_upd, res_full, res_gone]
  unfold pend sentTok
  iintro ⟨⟨#HR, #Hlev, ⟨Hs, Hm⟩, Hw1, Hw2, ⟨%W, HO⟩, ⟨⟨Ht1, Ht2, Hat, Hl, -⟩, Hp⟩, Hwt, Hst, Hg, Hb⟩, Hk⟩
  iapply (send_at m K c x (hsc := hsc) (hsrc := hsrc) (hdst := hdst) (hsem := hsem) (k := k) (Kt := Kt) s.todo.tail W) $$ [Hs Hl HO Ht1 Ht2]
  · isplitr; · iexact HR
    isplitl [Hs]; · unfold sendPay; rw [hx]; iexact Hs
    isplitl [Hl]; · iexact Hl
    isplitl [HO]; · iexact HO
    isplitl [Ht1] <;> iassumption
  iintro ⟨Hcr, HO⟩
  iapply Hk
  isplitr; · iexact HR
  isplitr; · iexact Hlev
  isplitl [Hm]
  · isplitr; · iempintro
    iexact Hm
  isplitl [Hw1]; · iexact Hw1
  isplitl [Hw2]; · iexact Hw2
  isplitl [HO]; · iexists W; iexact HO
  isplitl [Hp]; · iexact Hp
  isplitl [Hwt]; · iexact Hwt
  isplitl [Hst Hat Hcr]
  · isplitl [Hst]; · iexact Hst
    isplitl [Hat] <;> iassumption
  isplitl [Hg] <;> iassumption

/-! ## Waiting -/

/-- A transfer from a neighbour has come in. -/
theorem recv {c : Dev nD} {s : State F} {α : Type} {Kt : α → sProp 𝕄} (x : X) (ht : s.wait = x :: s.wait.tail) (hm : s.mem (dst x) = .gone) (hl : s.todo.all (fun y => Nat.blt (lx x) (lx y)) = true)
    {S D : Memref sig .tc .vmem S128x512 .f32} (hcr : D.view.dmaCredit = N) {q : DmaSem sig} (hq : q = rS x)
    {hsrc : S.view.WordExact} {hdst : D.view.WordExact} {k : PUnit → Prog (TpuEff nD τ sig (Elt F) Λ₀ .tc) α} :
    iprop(ST m K c s ∗ (ST m K c (State.recv m c s x) -∗ wp frame (wpE (defs₀ (F := F)) 𝒱₀ (c : Thread nD τ) none) Set.univ (k ⟨⟩) Kt)) ⊢ wp frame (wpE (defs₀ (F := F)) 𝒱₀ (c : Thread nD τ) none) Set.univ (.op (.waitDma2 q S D hsrc hdst) k) Kt := by
  subst hq
  unfold ST State.recv
  dsimp only
  rw [ht, List.tail_cons, bigSepL_cons', bigSepL_cons', slots_at c s.mem (dst x) _ hm, slots_upd, res_full, res_gone]
  unfold waitTok
  iintro ⟨⟨#HR, #Hlev, ⟨-, Hm⟩, Hw1, Hw2, ⟨%W, HO⟩, Hp, ⟨⟨Hat, Hcr⟩, Hwt⟩, Hst, Hg, Hb⟩, Hk⟩
  ihave HR1 := (rec_recv m K c x) $$ HR
  icases HR1 with ⟨#HI, #Hr⟩
  iapply (Rounds.wp_wait_rest_token 𝒱₀ ER (Rd m) (c : Thread nD τ) none (κ := K (c, some (x, true)))
      (wpE_waitDma2_eq 𝒱₀ (c : Thread nD τ) none Set.univ) (Set.mem_univ _) () (O := owe c s.todo) (W := W) (R := 0) (m := 0) (T := ∅)
      (by rw [Nat.zero_add, expect_recv])) $$ [Hcr HO Hat]
  · isplitr; · iexact HI
    isplitl [Hcr]; · iexact Hcr
    isplitl [HO]; · iexact HO
    isplitr
    · iapply (mayWait_owe c (.dma (rS x)) (lx x) (lv_recv c x ()) s.todo (fun y hy => by
        have := List.all_eq_true.mp hl y hy
        rwa [Nat.blt_eq] at this)); iexact Hlev
    iexact Hat
  iintro ⟨HO, Hat, -, Hpay⟩
  ihave Hpay := (Entails.of_eq (rest_recv m c x)) $$ Hpay
  imod (Rounds.cell_close ER (Rd m) (Set.mem_univ (K (c, some (x, true)))) (fun h => h) (R := 0 + 1) (duties_later m (recvCell c x))) $$ [Hat] with Hz
  · isplitr; · iexact HI
    iexact Hat
  iapply Hk
  isplitr; · iexact HR
  isplitr; · iexact Hlev
  isplitl [Hm Hpay]
  · isplitl [Hpay]; · unfold recvPay; iexact Hpay
    iexact Hm
  isplitl [Hw1]; · iexact Hw1
  isplitl [Hw2]; · iexact Hw2
  isplitl [HO]; · iexists _; iexact HO
  isplitl [Hp]; · iexact Hp
  isplitl [Hwt]; · iexact Hwt
  isplitl [Hst]; · iexact Hst
  isplitl [Hg Hz]
  · isplitl [Hz]; · unfold gotRes; iexact Hz
    iexact Hg
  iexact Hb

/-- One's own transfer has been delivered: its source is the device's again. -/
theorem ret {c : Dev nD} {s : State F} {α : Type} {Kt : α → sProp 𝕄} (x : X) (ht : s.sent = x :: s.sent.tail) (hl : s.todo = [])
    {S D : Memref sig .tc .vmem S128x512 .f32} (hcr : D.view.dmaCredit = N) {q : DmaSem sig} (hq : q = sS x)
    {hsrc : S.view.WordExact} {hdst : D.view.WordExact} {k : PUnit → Prog (TpuEff nD τ sig (Elt F) Λ₀ .tc) α} :
    iprop(ST m K c s ∗ (ST m K c (s.ret x) -∗ wp frame (wpE (defs₀ (F := F)) 𝒱₀ (c : Thread nD τ) none) Set.univ (k ⟨⟩) Kt)) ⊢ wp frame (wpE (defs₀ (F := F)) 𝒱₀ (c : Thread nD τ) none) Set.univ (.op (.waitDma2 q S D hsrc hdst) k) Kt := by
  subst hq
  unfold ST State.ret
  dsimp only
  rw [ht, List.tail_cons, bigSepL_cons', bigSepL_cons']
  unfold sentTok
  iintro ⟨⟨#HR, #Hlev, Hm, Hw1, Hw2, ⟨%W, HO⟩, Hp, Hwt, ⟨⟨Hat, Hcr⟩, Hst⟩, Hg, Hb⟩, Hk⟩
  ihave HR1 := (rec_send m K c x) $$ HR
  icases HR1 with ⟨#HI, #Hr⟩
  iapply (Rounds.wp_wait_rest_token 𝒱₀ ER (Rd m) (c : Thread nD τ) none (κ := K (c, some (x, false)))
      (wpE_waitDma2_eq 𝒱₀ (c : Thread nD τ) none Set.univ) (Set.mem_univ _) () (O := owe c s.todo) (W := W) (R := 0) (m := 0) (T := ∅)
      (by rw [Nat.zero_add, expect_send])) $$ [Hcr HO Hat]
  · isplitr; · iexact HI
    isplitl [Hcr]; · iexact Hcr
    isplitl [HO]; · iexact HO
    isplitr
    · iapply (mayWait_owe c (.dma (sS x)) 0 (lv_send c x ()) s.todo (fun y hy => by rw [hl] at hy; cases hy)); iexact Hlev
    iexact Hat
  iintro ⟨HO, Hat, -, Hpay⟩
  ihave Hpay := (Entails.of_eq (rest_send m c x)) $$ Hpay
  imod (Rounds.cell_close ER (Rd m) (Set.mem_univ (K (c, some (x, false)))) (fun h => h) (R := 0 + 1) (duties_later m (sendCell c x))) $$ [Hat] with Hz
  · isplitr; · iexact HI
    iexact Hat
  iapply Hk
  isplitr; · iexact HR
  isplitr; · iexact Hlev
  isplitl [Hm]; · iexact Hm
  isplitl [Hw1]; · iexact Hw1
  isplitl [Hw2]; · iexact Hw2
  isplitl [HO]; · iexists _; iexact HO
  isplitl [Hp]; · iexact Hp
  isplitl [Hwt]; · iexact Hwt
  isplitl [Hst]; · iexact Hst
  isplitl [Hg]; · iexact Hg
  isplitl [Hz Hpay]
  · unfold backRes; isplitl [Hz] <;> iassumption
  iexact Hb

end Rules

end Cert.KProof

end
-- ==== Proof.Access.lean ====
/-
# Loads and stores

The lemmas of `Steps` for the loads and stores of a slot, in a two-dimensional buffer or in one third of a three-dimensional
one, and the values the kernel computes, read as the one function `ffn` and its sums.
-/
module

public import proofs.«01_k».proof.Proof.Steps
public import Idealize.ShloMosaic.Lib.Pipeline.Value

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- 128 rows as one plane of a three-dimensional block. -/
def up (v : V F) : FVec F S1x128x512 .f32 := shapeCast S1x128x512 v shapeCasts_S128x512_S1x128x512
def down (u : FVec F S1x128x512 .f32) : V F := shapeCast S128x512 u shapeCasts_S1x128x512_S128x512
theorem down_up (v : V F) : down (up v) = v := shapeCast_shapeCast v _ _
theorem up_down (u : FVec F S1x128x512 .f32) : up (down u) = u := shapeCast_shapeCast u _ _

theorem set3 (M : Memref sig .tc .vmem S3x256x512 .f32) (i : Fin 3) (g : Fin 2) : (sl3 M i g).view.set = (M.access (rc3 i g)).set :=
  View.set_reshape (v := M.access (rc3 i g)) _

/-! ## A memref's own lines -/

/-- A load of one slot of a three-dimensional buffer. -/
theorem owns_load3 {c : Dev nD} {α : Type} {Kt : α → sProp 𝕄} (M : Memref sig .tc .vmem S3x256x512 .f32) (i : Fin 3) (g : Fin 2) (q : PosShare TreeShare) (v : V F)
    {hl : M.view.LoadsAt (rc3 i g).toLoadRect} {k : ((rc3 i g).shape.Idx → Elt F .f32) → Prog (TpuEff nD τ sig (Elt F) Λ₀ .tc) α} :
    owns (c : Thread nD τ) (sl3 M i g) q v
      ⊢ iprop((owns (c : Thread nD τ) (sl3 M i g) q v -∗ wp frame (wpE (defs₀ (F := F)) 𝒱₀ (c : Thread nD τ) none) Set.univ (k (up v)) Kt)
        -∗ wp frame (wpE (defs₀ (F := F)) 𝒱₀ (c : Thread nD τ) none) Set.univ (.op (.load M (rc3 i g).toLoadRect hl) k) Kt) := by
  iintro H Hk
  unfold owns
  icases H with ⟨%f, %hf, H⟩
  iapply (wp_load_rect 𝒱₀ (c : Thread nD τ) none Set.univ (m := M) (r := rc3 i g) (S := (sl3 M i g).view.set) (q := q) (f := f)
    (subset_of_eq (set3 M i g).symm)) $$ H
  iintro H
  rw [show (M.access (rc3 i g)).read (Elt F) f = up v from by rw [← hf]; exact (up_down _).symm]
  iapply Hk
  iexists f
  isplitr
  · ipureintro; exact hf
  · iexact H

/-- A store to one slot of a three-dimensional buffer. -/
theorem owns_store3 {c : Dev nD} {α : Type} {Kt : α → sProp 𝕄} (M : Memref sig .tc .vmem S3x256x512 .f32) (i : Fin 3) (g : Fin 2) (v₀ v : V F)
    {w : (rc3 i g).shape.Idx → Elt F .f32} (hw : w = up v) {hx : (M.access (rc3 i g)).Stores Finset.univ} {hm : Finset.univ = Finset.univ ∨ ∀ a, (rc3 i g).stride a = 1}
    {k : PUnit → Prog (TpuEff nD τ sig (Elt F) Λ₀ .tc) α} :
    owns (c : Thread nD τ) (sl3 M i g) fullShare v₀
      ⊢ iprop((owns (c : Thread nD τ) (sl3 M i g) fullShare v -∗ wp frame (wpE (defs₀ (F := F)) 𝒱₀ (c : Thread nD τ) none) Set.univ (k ⟨⟩) Kt)
        -∗ wp frame (wpE (defs₀ (F := F)) 𝒱₀ (c : Thread nD τ) none) Set.univ (.op (.store M (rc3 i g) w Finset.univ hx hm) k) Kt) := by
  iintro H Hk
  unfold owns
  icases H with ⟨%f, %hf, H⟩
  iapply (wp_store 𝒱₀ (c : Thread nD τ) none Set.univ (m := M) (r := rc3 i g) (Mk := Finset.univ) (S := (sl3 M i g).view.set) (f := f)
    (subset_of_eq (set3 M i g).symm)) $$ H
  iintro H
  iapply Hk
  iexists (M.access (rc3 i g)).write (Elt F) f w Finset.univ
  isplitr
  · ipureintro
    show down ((M.access (rc3 i g)).read (Elt F) ((M.access (rc3 i g)).write (Elt F) f w Finset.univ)) = v
    rw [View.read_write_univ, hw, down_up]
  · iexact H

/-- A load of 128 rows of a two-dimensional buffer. -/
theorem owns_load2 {c : Dev nD} {α : Type} {Kt : α → sProp 𝕄} {d : Shape} (M : Memref sig .tc .vmem d .f32) (r : Rect d) (hr : ∀ a, r.stride a = 1) (q : PosShare TreeShare)
    (v : r.shape.Idx → Elt F .f32) {hl : M.view.LoadsAt r.toLoadRect} {k : (r.shape.Idx → Elt F .f32) → Prog (TpuEff nD τ sig (Elt F) Λ₀ .tc) α} :
    owns (c : Thread nD τ) (M.slice r hr) q v
      ⊢ iprop((owns (c : Thread nD τ) (M.slice r hr) q v -∗ wp frame (wpE (defs₀ (F := F)) 𝒱₀ (c : Thread nD τ) none) Set.univ (k v) Kt)
        -∗ wp frame (wpE (defs₀ (F := F)) 𝒱₀ (c : Thread nD τ) none) Set.univ (.op (.load M r.toLoadRect hl) k) Kt) := by
  iintro H Hk
  unfold owns
  icases H with ⟨%f, %hf, H⟩
  iapply (wp_load_rect 𝒱₀ (c : Thread nD τ) none Set.univ (m := M) (r := r) (S := (M.slice r hr).view.set) (q := q) (f := f) subset_rfl) $$ H
  iintro H
  rw [show (M.access r).read (Elt F) f = v from hf]
  iapply Hk
  iexists f
  isplitr
  · ipureintro; exact hf
  · iexact H

/-- A store to 128 rows of a two-dimensional buffer. -/
theorem owns_store2 {c : Dev nD} {α : Type} {Kt : α → sProp 𝕄} {d : Shape} (M : Memref sig .tc .vmem d .f32) (r : Rect d) (hr : ∀ a, r.stride a = 1)
    (v₀ v : r.shape.Idx → Elt F .f32) {w : r.shape.Idx → Elt F .f32} (hw : w = v) {hx : (M.access r).Stores Finset.univ} {hm : Finset.univ = Finset.univ ∨ ∀ a, r.stride a = 1}
    {k : PUnit → Prog (TpuEff nD τ sig (Elt F) Λ₀ .tc) α} :
    owns (c : Thread nD τ) (M.slice r hr) fullShare v₀
      ⊢ iprop((owns (c : Thread nD τ) (M.slice r hr) fullShare v -∗ wp frame (wpE (defs₀ (F := F)) 𝒱₀ (c : Thread nD τ) none) Set.univ (k ⟨⟩) Kt)
        -∗ wp frame (wpE (defs₀ (F := F)) 𝒱₀ (c : Thread nD τ) none) Set.univ (.op (.store M r w Finset.univ hx hm) k) Kt) := by
  iintro H Hk
  unfold owns
  icases H with ⟨%f, %hf, H⟩
  iapply (wp_store 𝒱₀ (c : Thread nD τ) none Set.univ (m := M) (r := r) (Mk := Finset.univ) (S := (M.slice r hr).view.set) (f := f) subset_rfl) $$ H
  iintro H
  iapply Hk
  iexists (M.access r).write (Elt F) f w Finset.univ
  isplitr
  · ipureintro
    rw [← hw]; exact View.read_write_univ _ _
  · iexact H

/-! ## The same between states -/

/-- The state's slot out, and back as it was. -/
theorem slot_lend {c : Dev nD} {s : State F} (sl : Slot) :
    ST m K c s ⊢ iprop(St.res c sl (s.mem sl) ∗ (St.res c sl (s.mem sl) -∗ ST m K c s)) := by
  unfold ST
  iintro ⟨HR, Hlev, Hm, Hrest⟩
  ihave Hm2 := (Entails.of_eq (slots_at c s.mem sl _ rfl)) $$ Hm
  icases Hm2 with ⟨Hs, Hm⟩
  isplitl [Hs]; · iexact Hs
  iintro Hs
  isplitl [HR]; · iexact HR
  isplitl [Hlev]; · iexact Hlev
  isplitl [Hs Hm]
  · rw [slots_at c s.mem sl _ rfl]
    isplitl [Hs] <;> iassumption
  iexact Hrest
/-- The state's slot out, and back in another state. -/
theorem slot_swap {c : Dev nD} {s : State F} (sl : Slot) (v : V F) :
    ST m K c s ⊢ iprop(St.res c sl (s.mem sl) ∗ (owns (c : Thread nD τ) (mr sl) fullShare v -∗ ST m K c (s.put sl v))) := by
  unfold ST State.put
  iintro ⟨HR, Hlev, Hm, Hrest⟩
  ihave Hm2 := (Entails.of_eq (slots_at c s.mem sl _ rfl)) $$ Hm
  icases Hm2 with ⟨Hs, Hm⟩
  isplitl [Hs]; · iexact Hs
  iintro Hs
  isplitl [HR]; · iexact HR
  isplitl [Hlev]; · iexact Hlev
  isplitl [Hs Hm]
  · rw [slots_upd, res_full]
    isplitl [Hs] <;> iassumption
  iexact Hrest

theorem res_val {c : Dev nD} {sl : Slot} {st : St F} {v : V F} (h : st.val = some v) :
    ∃ q, (St.res c sl st : sProp 𝕄) = owns (c : Thread nD τ) (mr sl) q v := by
  cases st with
  | gone => cases h
  | any => cases h
  | full w => cases h; exact ⟨_, rfl⟩
  | half w => cases h; exact ⟨_, rfl⟩
theorem res_free {c : Dev nD} {sl : Slot} {st : St F} (h : st.free = true) :
    (St.res c sl st : sProp 𝕄) ⊢ iprop(∃ v : V F, owns (c : Thread nD τ) (mr sl) fullShare v) := by
  cases st with
  | gone => cases h
  | any => exact .rfl
  | full w => rw [res_full]; iintro H; iexists w; iexact H
  | half w => cases h

/-- A load of a slot of a three-dimensional buffer whose value is known; one whose value nothing reads; a store. -/
theorem load3 {c : Dev nD} {s : State F} {α : Type} {Kt : α → sProp 𝕄} (sl : Slot) (i : Fin 3) (g : Fin 2) (v : V F) (hv : (s.mem sl).val = some v)
    {M : Memref sig .tc .vmem S3x256x512 .f32} (hM : mr sl = sl3 M i g)
    {hl : M.view.LoadsAt (rc3 i g).toLoadRect} {k : ((rc3 i g).shape.Idx → Elt F .f32) → Prog (TpuEff nD τ sig (Elt F) Λ₀ .tc) α} :
    iprop(ST m K c s ∗ (ST m K c s -∗ wp frame (wpE (defs₀ (F := F)) 𝒱₀ (c : Thread nD τ) none) Set.univ (k (up v)) Kt))
      ⊢ wp frame (wpE (defs₀ (F := F)) 𝒱₀ (c : Thread nD τ) none) Set.univ (.op (.load M (rc3 i g).toLoadRect hl) k) Kt := by
  obtain ⟨q, hq⟩ := res_val (c := c) (sl := sl) hv
  have h := slot_lend m K (c := c) (s := s) sl
  rw [hq, hM] at h
  iintro ⟨H, Hk⟩
  ihave H2 := h $$ H
  icases H2 with ⟨Hs, Hb⟩
  iapply (owns_load3 M i g q v) $$ Hs
  iintro Hs
  iapply Hk
  iapply Hb
  iexact Hs

theorem load3' {c : Dev nD} {s : State F} {α : Type} {Kt : α → sProp 𝕄} (sl : Slot) (i : Fin 3) (g : Fin 2) (hv : (s.mem sl) = .any)
    {M : Memref sig .tc .vmem S3x256x512 .f32} (hM : mr sl = sl3 M i g)
    {hl : M.view.LoadsAt (rc3 i g).toLoadRect} {k : ((rc3 i g).shape.Idx → Elt F .f32) → Prog (TpuEff nD τ sig (Elt F) Λ₀ .tc) α} :
    iprop(ST m K c s ∗ (∀ v, ST m K c s -∗ wp frame (wpE (defs₀ (F := F)) 𝒱₀ (c : Thread nD τ) none) Set.univ (k (up v)) Kt))
      ⊢ wp frame (wpE (defs₀ (F := F)) 𝒱₀ (c : Thread nD τ) none) Set.univ (.op (.load M (rc3 i g).toLoadRect hl) k) Kt := by
  have h := slot_lend m K (c := c) (s := s) sl
  rw [hv, res_any, hM] at h
  iintro ⟨H, Hk⟩
  ihave H2 := h $$ H
  icases H2 with ⟨⟨%v, Hs⟩, Hb⟩
  iapply (owns_load3 M i g _ v) $$ Hs
  iintro Hs
  iapply Hk
  iapply Hb
  iexists v
  iexact Hs

theorem store3 {c : Dev nD} {s : State F} {α : Type} {Kt : α → sProp 𝕄} (sl : Slot) (i : Fin 3) (g : Fin 2) (hv : (s.mem sl).free = true)
    {M : Memref sig .tc .vmem S3x256x512 .f32} (hM : mr sl = sl3 M i g) {v : V F}
    {w : (rc3 i g).shape.Idx → Elt F .f32} (hw : w = up v) {hx : (M.access (rc3 i g)).Stores Finset.univ} {hm : Finset.univ = Finset.univ ∨ ∀ a, (rc3 i g).stride a = 1}
    {k : PUnit → Prog (TpuEff nD τ sig (Elt F) Λ₀ .tc) α} :
    iprop(ST m K c s ∗ (ST m K c (s.put sl v) -∗ wp frame (wpE (defs₀ (F := F)) 𝒱₀ (c : Thread nD τ) none) Set.univ (k ⟨⟩) Kt))
      ⊢ wp frame (wpE (defs₀ (F := F)) 𝒱₀ (c : Thread nD τ) none) Set.univ (.op (.store M (rc3 i g) w Finset.univ hx hm) k) Kt := by
  have h := (slot_swap m K (c := c) (s := s) sl v).trans (sep_mono_left (res_free hv))
  rw [hM] at h
  iintro ⟨H, Hk⟩
  ihave H2 := h $$ H
  icases H2 with ⟨⟨%v₀, Hs⟩, Hb⟩
  iapply (owns_store3 M i g v₀ v hw) $$ Hs
  iintro Hs
  iapply Hk
  iapply Hb
  iexact Hs

/-- A load of a slot of a whole block whose value is known; one whose value nothing reads; a store. -/
theorem load5 {c : Dev nD} {s : State F} {α : Type} {Kt : α → sProp 𝕄} (sl : Slot) (r g : Fin 2) (v : V F) (hv : (s.mem sl).val = some v)
    {M : Memref sig .tc .vmem S512x512 .f32} (hM : mr sl = sl5 M r g)
    {hl : M.view.LoadsAt (rc5 r g).toLoadRect} {k : ((rc5 r g).shape.Idx → Elt F .f32) → Prog (TpuEff nD τ sig (Elt F) Λ₀ .tc) α} :
    iprop(ST m K c s ∗ (ST m K c s -∗ wp frame (wpE (defs₀ (F := F)) 𝒱₀ (c : Thread nD τ) none) Set.univ (k (v)) Kt))
      ⊢ wp frame (wpE (defs₀ (F := F)) 𝒱₀ (c : Thread nD τ) none) Set.univ (.op (.load M (rc5 r g).toLoadRect hl) k) Kt := by
  obtain ⟨q, hq⟩ := res_val (c := c) (sl := sl) hv
  have h := slot_lend m K (c := c) (s := s) sl
  rw [hq, hM] at h
  iintro ⟨H, Hk⟩
  ihave H2 := h $$ H
  icases H2 with ⟨Hs, Hb⟩
  iapply (owns_load2 M (rc5 r g) (fun _ => rfl) q v) $$ Hs
  iintro Hs
  iapply Hk
  iapply Hb
  iexact Hs

theorem load5' {c : Dev nD} {s : State F} {α : Type} {Kt : α → sProp 𝕄} (sl : Slot) (r g : Fin 2) (hv : (s.mem sl) = .any)
    {M : Memref sig .tc .vmem S512x512 .f32} (hM : mr sl = sl5 M r g)
    {hl : M.view.LoadsAt (rc5 r g).toLoadRect} {k : ((rc5 r g).shape.Idx → Elt F .f32) → Prog (TpuEff nD τ sig (Elt F) Λ₀ .tc) α} :
    iprop(ST m K c s ∗ (∀ v, ST m K c s -∗ wp frame (wpE (defs₀ (F := F)) 𝒱₀ (c : Thread nD τ) none) Set.univ (k (v)) Kt))
      ⊢ wp frame (wpE (defs₀ (F := F)) 𝒱₀ (c : Thread nD τ) none) Set.univ (.op (.load M (rc5 r g).toLoadRect hl) k) Kt := by
  have h := slot_lend m K (c := c) (s := s) sl
  rw [hv, res_any, hM] at h
  iintro ⟨H, Hk⟩
  ihave H2 := h $$ H
  icases H2 with ⟨⟨%v, Hs⟩, Hb⟩
  iapply (owns_load2 M (rc5 r g) (fun _ => rfl) _ v) $$ Hs
  iintro Hs
  iapply Hk
  iapply Hb
  iexists v
  iexact Hs

theorem store5 {c : Dev nD} {s : State F} {α : Type} {Kt : α → sProp 𝕄} (sl : Slot) (r g : Fin 2) (hv : (s.mem sl).free = true)
    {M : Memref sig .tc .vmem S512x512 .f32} (hM : mr sl = sl5 M r g) {v : V F}
    {w : (rc5 r g).shape.Idx → Elt F .f32} (hw : w = v) {hx : (M.access (rc5 r g)).Stores Finset.univ} {hm : Finset.univ = Finset.univ ∨ ∀ a, (rc5 r g).stride a = 1}
    {k : PUnit → Prog (TpuEff nD τ sig (Elt F) Λ₀ .tc) α} :
    iprop(ST m K c s ∗ (ST m K c (s.put sl v) -∗ wp frame (wpE (defs₀ (F := F)) 𝒱₀ (c : Thread nD τ) none) Set.univ (k ⟨⟩) Kt))
      ⊢ wp frame (wpE (defs₀ (F := F)) 𝒱₀ (c : Thread nD τ) none) Set.univ (.op (.store M (rc5 r g) w Finset.univ hx hm) k) Kt := by
  have h := (slot_swap m K (c := c) (s := s) sl v).trans (sep_mono_left (res_free hv))
  rw [hM] at h
  iintro ⟨H, Hk⟩
  ihave H2 := h $$ H
  icases H2 with ⟨⟨%v₀, Hs⟩, Hb⟩
  iapply (owns_store2 M (rc5 r g) (fun _ => rfl) v₀ v hw) $$ Hs
  iintro Hs
  iapply Hk
  iapply Hb
  iexact Hs

/-- A load of a slot of a buffer of own products whose value is known; one whose value nothing reads; a store. -/
theorem load2 {c : Dev nD} {s : State F} {α : Type} {Kt : α → sProp 𝕄} (sl : Slot) (g : Fin 2) (v : V F) (hv : (s.mem sl).val = some v)
    {M : Memref sig .tc .vmem S256x512 .f32} (hM : mr sl = sl2 M g)
    {hl : M.view.LoadsAt (rc2 g).toLoadRect} {k : ((rc2 g).shape.Idx → Elt F .f32) → Prog (TpuEff nD τ sig (Elt F) Λ₀ .tc) α} :
    iprop(ST m K c s ∗ (ST m K c s -∗ wp frame (wpE (defs₀ (F := F)) 𝒱₀ (c : Thread nD τ) none) Set.univ (k (v)) Kt))
      ⊢ wp frame (wpE (defs₀ (F := F)) 𝒱₀ (c : Thread nD τ) none) Set.univ (.op (.load M (rc2 g).toLoadRect hl) k) Kt := by
  obtain ⟨q, hq⟩ := res_val (c := c) (sl := sl) hv
  have h := slot_lend m K (c := c) (s := s) sl
  rw [hq, hM] at h
  iintro ⟨H, Hk⟩
  ihave H2 := h $$ H
  icases H2 with ⟨Hs, Hb⟩
  iapply (owns_load2 M (rc2 g) (fun _ => rfl) q v) $$ Hs
  iintro Hs
  iapply Hk
  iapply Hb
  iexact Hs

theorem load2' {c : Dev nD} {s : State F} {α : Type} {Kt : α → sProp 𝕄} (sl : Slot) (g : Fin 2) (hv : (s.mem sl) = .any)
    {M : Memref sig .tc .vmem S256x512 .f32} (hM : mr sl = sl2 M g)
    {hl : M.view.LoadsAt (rc2 g).toLoadRect} {k : ((rc2 g).shape.Idx → Elt F .f32) → Prog (TpuEff nD τ sig (Elt F) Λ₀ .tc) α} :
    iprop(ST m K c s ∗ (∀ v, ST m K c s -∗ wp frame (wpE (defs₀ (F := F)) 𝒱₀ (c : Thread nD τ) none) Set.univ (k (v)) Kt))
      ⊢ wp frame (wpE (defs₀ (F := F)) 𝒱₀ (c : Thread nD τ) none) Set.univ (.op (.load M (rc2 g).toLoadRect hl) k) Kt := by
  have h := slot_lend m K (c := c) (s := s) sl
  rw [hv, res_any, hM] at h
  iintro ⟨H, Hk⟩
  ihave H2 := h $$ H
  icases H2 with ⟨⟨%v, Hs⟩, Hb⟩
  iapply (owns_load2 M (rc2 g) (fun _ => rfl) _ v) $$ Hs
  iintro Hs
  iapply Hk
  iapply Hb
  iexists v
  iexact Hs

theorem store2 {c : Dev nD} {s : State F} {α : Type} {Kt : α → sProp 𝕄} (sl : Slot) (g : Fin 2) (hv : (s.mem sl).free = true)
    {M : Memref sig .tc .vmem S256x512 .f32} (hM : mr sl = sl2 M g) {v : V F}
    {w : (rc2 g).shape.Idx → Elt F .f32} (hw : w = v) {hx : (M.access (rc2 g)).Stores Finset.univ} {hm : Finset.univ = Finset.univ ∨ ∀ a, (rc2 g).stride a = 1}
    {k : PUnit → Prog (TpuEff nD τ sig (Elt F) Λ₀ .tc) α} :
    iprop(ST m K c s ∗ (ST m K c (s.put sl v) -∗ wp frame (wpE (defs₀ (F := F)) 𝒱₀ (c : Thread nD τ) none) Set.univ (k ⟨⟩) Kt))
      ⊢ wp frame (wpE (defs₀ (F := F)) 𝒱₀ (c : Thread nD τ) none) Set.univ (.op (.store M (rc2 g) w Finset.univ hx hm) k) Kt := by
  have h := (slot_swap m K (c := c) (s := s) sl v).trans (sep_mono_left (res_free hv))
  rw [hM] at h
  iintro ⟨H, Hk⟩
  ihave H2 := h $$ H
  icases H2 with ⟨⟨%v₀, Hs⟩, Hb⟩
  iapply (owns_store2 M (rc2 g) (fun _ => rfl) v₀ v hw) $$ Hs
  iintro Hs
  iapply Hk
  iapply Hb
  iexact Hs

/-- The loads of the two matrices. -/
theorem loadW1 {c : Dev nD} {s : State F} {α : Type} {Kt : α → sProp 𝕄} {inb : ∀ a, (![0, 0] : Fin 2 → ℕ) a + S512x2048.size a ≤ S512x2048.size a}
    {hl : (w1M : Memref sig .tc .vmem S512x2048 .f32).view.LoadsAt (Rect.unit (s := S512x2048) ![0, 0] S512x2048.size inb).toLoadRect}
    {k : (S512x2048.Idx → Elt F .f32) → Prog (TpuEff nD τ sig (Elt F) Λ₀ .tc) α} :
    iprop(ST m K c s ∗ (ST m K c s -∗ wp frame (wpE (defs₀ (F := F)) 𝒱₀ (c : Thread nD τ) none) Set.univ (k (w1stg m c)) Kt))
      ⊢ wp frame (wpE (defs₀ (F := F)) 𝒱₀ (c : Thread nD τ) none) Set.univ
          (.op (.load w1M (Rect.unit (s := S512x2048) ![0, 0] S512x2048.size inb).toLoadRect hl) k) Kt := by
  unfold ST
  iintro ⟨⟨HR, Hlev, Hm, Hw1, Hw2, Hrest⟩, Hk⟩
  unfold owns
  icases Hw1 with ⟨%f, %hf, H⟩
  iapply (wp_load 𝒱₀ (c : Thread nD τ) none Set.univ (m := w1M) (S := (w1M : Memref sig .tc .vmem S512x2048 .f32).view.set)
    (by rw [View.set_whole]; exact Finset.subset_univ _)) $$ H
  iintro H
  rw [show (w1M : Memref sig .tc .vmem S512x2048 .f32).view.readAt (Elt F) (Rect.unit (s := S512x2048) ![0, 0] S512x2048.size inb).toLoadRect f = w1stg m c from
    (Memref.readAt_unit_zero (Elt F) cc0_stg1_0 (by decide) inb f).trans ((View.read_whole _ _).symm.trans hf)]
  iapply Hk
  isplitl [HR]; · iexact HR
  isplitl [Hlev]; · iexact Hlev
  isplitl [Hm]; · iexact Hm
  isplitl [H]
  · iexists f; isplitr
    · ipureintro; exact hf
    · iexact H
  isplitl [Hw2] <;> iassumption
theorem loadW2 {c : Dev nD} {s : State F} {α : Type} {Kt : α → sProp 𝕄} {inb : ∀ a, (![0, 0] : Fin 2 → ℕ) a + S2048x512.size a ≤ S2048x512.size a}
    {hl : (w2M : Memref sig .tc .vmem S2048x512 .f32).view.LoadsAt (Rect.unit (s := S2048x512) ![0, 0] S2048x512.size inb).toLoadRect}
    {k : (S2048x512.Idx → Elt F .f32) → Prog (TpuEff nD τ sig (Elt F) Λ₀ .tc) α} :
    iprop(ST m K c s ∗ (ST m K c s -∗ wp frame (wpE (defs₀ (F := F)) 𝒱₀ (c : Thread nD τ) none) Set.univ (k (w2stg m c)) Kt))
      ⊢ wp frame (wpE (defs₀ (F := F)) 𝒱₀ (c : Thread nD τ) none) Set.univ
          (.op (.load w2M (Rect.unit (s := S2048x512) ![0, 0] S2048x512.size inb).toLoadRect hl) k) Kt := by
  unfold ST
  iintro ⟨⟨HR, Hlev, Hm, Hw1, Hw2, Hrest⟩, Hk⟩
  unfold owns
  icases Hw2 with ⟨%f, %hf, H⟩
  iapply (wp_load 𝒱₀ (c : Thread nD τ) none Set.univ (m := w2M) (S := (w2M : Memref sig .tc .vmem S2048x512 .f32).view.set)
    (by rw [View.set_whole]; exact Finset.subset_univ _)) $$ H
  iintro H
  rw [show (w2M : Memref sig .tc .vmem S2048x512 .f32).view.readAt (Elt F) (Rect.unit (s := S2048x512) ![0, 0] S2048x512.size inb).toLoadRect f = w2stg m c from
    (Memref.readAt_unit_zero (Elt F) cc0_stg2_0 (by decide) inb f).trans ((View.read_whole _ _).symm.trans hf)]
  iapply Hk
  isplitl [HR]; · iexact HR
  isplitl [Hlev]; · iexact Hlev
  isplitl [Hm]; · iexact Hm
  isplitl [Hw1]; · iexact Hw1
  isplitl [H]
  · iexists f; isplitr
    · ipureintro; exact hf
    · iexact H
  iassumption

/-! ## The values stored, as `ffn` and sums -/

section Values
variable (x y z : V F) (w1 : FVec F S512x2048 .f32) (w2 : FVec F S2048x512 .f32)

theorem pay2_eq : k0_pay2 (k0_pay1 x w1) w2 = ffn x w1 w2 := rfl
theorem pay3_eq : k0_pay3 x w1 w2 = ffn x w1 w2 := rfl
theorem pay5_eq : k0_pay5 (k0_pay4 x w1) w2 = ffn x w1 w2 := rfl
theorem pay6_eq : k0_pay6 x w1 w2 = ffn x w1 w2 := rfl
/-- A loaded plane read back as rows. -/
theorem cast_up (h : S1x128x512.ShapeCasts S128x512) : shapeCast S128x512 (up x) h = x := down_up x
theorem pay11_eq : k0_pay11 (up x) w1 w2 = ffn x w1 w2 := by
  unfold k0_pay11 ffn k0_pay2 k0_pay1
  simp only [cast_up, shapeCast_self]
theorem pay7_eq : k0_pay7 (up x) w1 w2 = up (ffn x w1 w2) := by
  show up (k0_pay11 (up x) w1 w2) = _
  rw [pay11_eq]
theorem pay8_eq : k0_pay8 (up x) w1 w2 = up (ffn x w1 w2) := pay7_eq x w1 w2
theorem pay9_eq : k0_pay9 (up x) w1 w2 = up (ffn x w1 w2) := pay7_eq x w1 w2
theorem pay10_eq : k0_pay10 (up x) w1 w2 = up (ffn x w1 w2) := pay7_eq x w1 w2
theorem pay13_eq : k0_pay13 (up x) w1 w2 = up (ffn x w1 w2) := pay7_eq x w1 w2
theorem pay14_eq : k0_pay14 (up x) w1 w2 = up (ffn x w1 w2) := pay7_eq x w1 w2
theorem pay15_eq : k0_pay15 (up x) w1 w2 = up (ffn x w1 w2) := pay7_eq x w1 w2
theorem pay16_eq : k0_pay16 (up x) w1 w2 = up (ffn x w1 w2) := pay7_eq x w1 w2
theorem pay22_eq : k0_pay22 (up x) w1 w2 = up (ffn x w1 w2) := pay7_eq x w1 w2
theorem pay12_eq : k0_pay12 (k0_pay11 (up x) w1 w2) = up (ffn x w1 w2) := pay7_eq x w1 w2
theorem pay18_eq : k0_pay18 (k0_pay17 (up x) w1 w2) = up (ffn x w1 w2) := pay7_eq x w1 w2
theorem pay21_eq : k0_pay21 (k0_pay19 (up x) w1) k0_pay20 w2 = up (ffn x w1 w2) := pay7_eq x w1 w2
theorem pay23_eq : k0_pay23 (up x) (up y) = up (addf x y) := by
  unfold k0_pay23
  simp only [cast_up]
  rfl
theorem pay24_eq : k0_pay24 (up x) (up y) = up (addf x y) := pay23_eq x y
theorem pay25_eq : k0_pay25 (up x) (up y) = up (addf x y) := pay23_eq x y
theorem pay26_eq : k0_pay26 (up x) (up y) = up (addf x y) := pay23_eq x y
theorem pay27_eq : k0_pay27 x (up y) (up z) = addf (addf x y) z := by
  unfold k0_pay27
  simp only [cast_up]
theorem pay28_eq : k0_pay28 x (up y) (up z) = addf (addf x y) z := pay27_eq x y z
theorem pay29_eq : k0_pay29 x (up y) (up z) = addf (addf x y) z := pay27_eq x y z
theorem pay30_eq : k0_pay30 x (up y) (up z) = addf (addf x y) z := pay27_eq x y z
end Values

end Cert.KProof

end
-- ==== Proof.Parts.lean ====
/-
# The parts of the kernel's body

What a device holds after each part of the body, and that the part leads from one to the next. A state is the one before it
with the slots written, the transfers started and the transfers waited for.
-/
module

public import proofs.«01_k».proof.Proof.Access

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ)

/-- A part of the kernel at the kernel's own buffers and semaphores. -/
abbrev on {β : Type _} (f : (arg0 : Memref sig .tc .vmem S512x512 .f32) → arg0.IsWhole → (arg1 : Memref sig .tc .vmem S512x2048 .f32) → arg1.IsWhole → (arg2 : Memref sig .tc .vmem S2048x512 .f32) → arg2.IsWhole → (arg3 : Memref sig .tc .vmem S512x512 .f32) → arg3.IsWhole →
    (arg4 : Memref sig .tc .vmem S3x256x512 .f32) → arg4.IsWhole → (arg5 : Memref sig .tc .vmem S3x256x512 .f32) → arg5.IsWhole → (arg6 : Memref sig .tc .vmem S3x256x512 .f32) → arg6.IsWhole → (arg7 : Memref sig .tc .vmem S256x512 .f32) → arg7.IsWhole →
    (arg8 : Memref sig .tc .vmem S3x256x512 .f32) → arg8.IsWhole → (arg9 : Memref sig .tc .vmem S3x256x512 .f32) → arg9.IsWhole → (arg10 : Memref sig .tc .vmem S3x256x512 .f32) → arg10.IsWhole → (arg11 : Memref sig .tc .vmem S256x512 .f32) → arg11.IsWhole →
    DmaSems sig S3x2 → DmaSems sig S3x2 → DmaSems sig S3x2 → DmaSems sig S3x2 →
    DmaSems sig S3x2 → DmaSems sig S3x2 → DmaSems sig S3x2 → DmaSems sig S3x2 → β) : β :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _) (Memref.whole cc0_scratch7) (Memref.isWhole_whole _)
    cc0_scratch8 cc0_scratch9 cc0_scratch10 cc0_scratch11
    cc0_scratch12 cc0_scratch13 cc0_scratch14 cc0_scratch15

/-- A rule with a rest, used when the rest needs nothing more. -/
theorem step {P Q R W : sProp 𝕄} (h : iprop(P ∗ (Q -∗ R)) ⊢ W) (h2 : Q ⊢ R) : P ⊢ W := by
  refine BIBase.Entails.trans ?_ h
  iintro H
  isplitl [H]; · iexact H
  iintro H; iapply h2 $$ H
theorem step' {β : Type} {P Q : sProp 𝕄} {R : β → sProp 𝕄} {W : sProp 𝕄} (h : iprop(P ∗ (∀ v, Q -∗ R v)) ⊢ W) (h2 : ∀ v, Q ⊢ R v) : P ⊢ W := by
  refine BIBase.Entails.trans ?_ h
  iintro H
  isplitl [H]; · iexact H
  iintro %v H; iapply (h2 v) $$ H
theorem last {α : Type} {c : Dev nD} {P : sProp 𝕄} {Kt : α → sProp 𝕄} {a : α} (h : P ⊢ Kt a) :
    P ⊢ wp frame (wpE (defs₀ (F := F)) 𝒱₀ (c : Thread nD τ) none) Set.univ (.ret a) Kt := by
  rw [wp_ret]
  iintro H; imodintro; iapply h $$ H

/-- A block of received rows taken through the function and kept in slot `b`. -/
theorem compute {c : Dev nD} {s : State F} {α : Type} {Kt : α → sProp 𝕄} (a b : Slot) (i j : Fin 3) (g : Fin 2) (v : V F)
    (ha : (s.mem a).val = some v) (hb : s.mem b = .any) {A B : Memref sig .tc .vmem S3x256x512 .f32} (hA : mr a = sl3 A i g) (hB : mr b = sl3 B j g)
    {pay : ((rc3 i g).shape.Idx → Elt F .f32) → (S512x2048.Idx → Elt F .f32) → (S2048x512.Idx → Elt F .f32) → ((rc3 j g).shape.Idx → Elt F .f32)}
    (hp : pay (up v) (w1stg m c) (w2stg m c) = up (fc m c v))
    {i1 : ∀ a, (![0, 0] : Fin 2 → ℕ) a + S512x2048.size a ≤ S512x2048.size a} {i2 : ∀ a, (![0, 0] : Fin 2 → ℕ) a + S2048x512.size a ≤ S2048x512.size a}
    {h1 : A.view.LoadsAt (rc3 i g).toLoadRect} {h2 : (w1M : Memref sig .tc .vmem S512x2048 .f32).view.LoadsAt (Rect.unit (s := S512x2048) ![0, 0] S512x2048.size i1).toLoadRect}
    {h3 : (w2M : Memref sig .tc .vmem S2048x512 .f32).view.LoadsAt (Rect.unit (s := S2048x512) ![0, 0] S2048x512.size i2).toLoadRect} {h4 : B.view.LoadsAt (rc3 j g).toLoadRect}
    {hx : (B.access (rc3 j g)).Stores Finset.univ} {hm : Finset.univ = Finset.univ ∨ ∀ a, (rc3 j g).stride a = 1}
    {k : PUnit → Prog (TpuEff nD τ sig (Elt F) Λ₀ .tc) α} :
    iprop(ST m K c s ∗ (ST m K c (s.put b (fc m c v)) -∗ wp frame (wpE (defs₀ (F := F)) 𝒱₀ (c : Thread nD τ) none) Set.univ (k ⟨⟩) Kt))
      ⊢ wp frame (wpE (defs₀ (F := F)) 𝒱₀ (c : Thread nD τ) none) Set.univ
          (.op (.load A (rc3 i g).toLoadRect h1) fun x : (rc3 i g).shape.Idx → Elt F .f32 => .op (.load w1M (Rect.unit (s := S512x2048) ![0, 0] S512x2048.size i1).toLoadRect h2) fun y : S512x2048.Idx → Elt F .f32 =>
            .op (.load w2M (Rect.unit (s := S2048x512) ![0, 0] S2048x512.size i2).toLoadRect h3) fun z : S2048x512.Idx → Elt F .f32 => .op (.load B (rc3 j g).toLoadRect h4) fun _ =>
            .op (.store B (rc3 j g) (pay x y z) Finset.univ hx hm) k) Kt := by
  iintro ⟨H, Hk⟩
  iapply (load3 m K a i g v ha hA)
  isplitl [H]; · iexact H
  iintro H
  iapply (loadW1 m K)
  isplitl [H]; · iexact H
  iintro H
  iapply (loadW2 m K)
  isplitl [H]; · iexact H
  iintro H
  iapply (load3' m K b j g hb hB)
  isplitl [H]; · iexact H
  iintro %u H
  iapply (store3 m K b j g (by rw [hb]; rfl) hB hp)
  isplitl [H]; · iexact H
  iexact Hk

/-- A partial product summed in place with a received one. -/
theorem combine {c : Dev nD} {s : State F} {α : Type} {Kt : α → sProp 𝕄} (a b : Slot) (i j : Fin 3) (g : Fin 2) (v w : V F)
    (ha : s.mem a = .full v) (hb : s.mem b = .full w) {A B : Memref sig .tc .vmem S3x256x512 .f32} (hA : mr a = sl3 A i g) (hB : mr b = sl3 B j g)
    {pay : ((rc3 i g).shape.Idx → Elt F .f32) → ((rc3 j g).shape.Idx → Elt F .f32) → ((rc3 i g).shape.Idx → Elt F .f32)} (hp : pay (up v) (up w) = up (addf v w))
    {h1 h3 : A.view.LoadsAt (rc3 i g).toLoadRect} {h2 : B.view.LoadsAt (rc3 j g).toLoadRect}
    {hx : (A.access (rc3 i g)).Stores Finset.univ} {hm : Finset.univ = Finset.univ ∨ ∀ a, (rc3 i g).stride a = 1}
    {k : PUnit → Prog (TpuEff nD τ sig (Elt F) Λ₀ .tc) α} :
    iprop(ST m K c s ∗ (ST m K c (s.put a (addf v w)) -∗ wp frame (wpE (defs₀ (F := F)) 𝒱₀ (c : Thread nD τ) none) Set.univ (k ⟨⟩) Kt))
      ⊢ wp frame (wpE (defs₀ (F := F)) 𝒱₀ (c : Thread nD τ) none) Set.univ
          (.op (.load A (rc3 i g).toLoadRect h1) fun x : (rc3 i g).shape.Idx → Elt F .f32 => .op (.load B (rc3 j g).toLoadRect h2) fun y : (rc3 j g).shape.Idx → Elt F .f32 => .op (.load A (rc3 i g).toLoadRect h3) fun _ =>
            .op (.store A (rc3 i g) (pay x y) Finset.univ hx hm) k) Kt := by
  iintro ⟨H, Hk⟩
  iapply (load3 m K a i g v (by rw [ha]; rfl) hA)
  isplitl [H]; · iexact H
  iintro H
  iapply (load3 m K b j g w (by rw [hb]; rfl) hB)
  isplitl [H]; · iexact H
  iintro H
  iapply (load3 m K a i g v (by rw [ha]; rfl) hA)
  isplitl [H]; · iexact H
  iintro H
  iapply (store3 m K a i g (by rw [ha]; rfl) hA hp)
  isplitl [H]; · iexact H
  iexact Hk

variable (c : Dev nD)

/-! ## The states between the parts -/

/-- After the barrier. -/
def S0 : State F where
  mem sl := match sl.1 with
    | 0 => .half (xs m c sl.2.1 sl.2.2) | 1 => .any | 2 => .any | 6 => .any | 7 => .any | 8 => .any
    | 3 => .gone | 4 => .gone | 5 => .gone | 9 => .gone | 10 => .gone | 11 => .gone
  todo := SL
  wait := WL
  sent := []
  got := []
  back := []

def S1 : State F := State.start0 (S0 m c) (0,0,0)
def S2 : State F := State.start0 (State.start0 (State.start0 (S1 m c) (0,1,0)) (0,0,1)) (0,1,1)
def S3 : State F := State.start0 (State.start0 (S2 m c) (1,0,0)) (1,1,0)
def S4 : State F := State.put (State.put (S3 m c) (1,0,0) (fc m c (xs m c 0 0))) (1,1,0) (fc m c (xs m c 1 0))
def S5 : State F := State.recv m c (State.start2 m c (State.recv m c (S4 m c) (0,0,0)) (2,0,0)) (0,1,0)
def S6 : State F := State.start0 (State.start0 (State.start2 m c (S5 m c) (2,1,0)) (1,0,1)) (1,1,1)
def S7 : State F := State.put (State.put (S6 m c) (1,0,1) (fc m c (xs m c 0 1))) (1,1,1) (fc m c (xs m c 1 1))
def S8 : State F := State.recv m c (State.start2 m c (State.recv m c (S7 m c) (0,0,1)) (2,0,1)) (0,1,1)
def S9 : State F := State.put (State.start2 m c (S8 m c) (2,1,1)) (8,0,0) (fc m c (rv m (0,0,0) c))
def S10 : State F := State.put (State.start3 (S9 m c) (5,0,0)) (8,1,0) (fc m c (rv m (0,1,0) c))
def S11 : State F := State.put (State.start3 (S10 m c) (5,1,0)) (8,0,1) (fc m c (rv m (0,0,1) c))
def S12 : State F := State.put (State.start3 (S11 m c) (5,0,1)) (8,1,1) (fc m c (rv m (0,1,1) c))
def S13 : State F := State.recv m c (State.start3 (S12 m c) (5,1,1)) (1,0,0)
def S14 : State F := State.put (State.recv m c (State.put (S13 m c) (6,0,0) (fc m c (rv m (1,0,0) c))) (1,1,0)) (6,1,0) (fc m c (rv m (1,1,0) c))
def S15 : State F := State.put (State.recv m c (S14 m c) (1,0,1)) (6,0,1) (fc m c (rv m (1,0,1) c))
def S16 : State F := State.put (State.recv m c (S15 m c) (1,1,1)) (6,1,1) (fc m c (rv m (1,1,1) c))
def S17 : State F := State.put (State.recv m c (S16 m c) (2,0,0)) (7,0,0) (fc m c (rv m (2,0,0) c))
def S18 : State F := State.recv m c (State.start3 (S17 m c) (3,0,0)) (2,1,0)
def S19 : State F := State.recv m c (State.start3 (State.put (S18 m c) (7,1,0) (fc m c (rv m (2,1,0) c))) (3,1,0)) (2,0,1)
def S20 : State F := State.start3 (State.put (S19 m c) (7,0,1) (fc m c (rv m (2,0,1) c))) (3,0,1)
def S21 : State F := State.put (State.recv m c (S20 m c) (2,1,1)) (7,1,1) (fc m c (rv m (2,1,1) c))
def S22 : State F := State.put (State.recv m c (State.start3 (S21 m c) (3,1,1)) (3,0,0)) (6,0,0) (addf (fc m c (rv m (1,0,0) c)) (rv m (3,0,0) c))
def S23 : State F := State.put (State.recv m c (State.start3 (S22 m c) (4,0,0)) (3,1,0)) (6,1,0) (addf (fc m c (rv m (1,1,0) c)) (rv m (3,1,0) c))
def S24 : State F := State.put (State.recv m c (State.start3 (S23 m c) (4,1,0)) (3,0,1)) (6,0,1) (addf (fc m c (rv m (1,0,1) c)) (rv m (3,0,1) c))
def S25 : State F := State.put (State.recv m c (State.start3 (S24 m c) (4,0,1)) (3,1,1)) (6,1,1) (addf (fc m c (rv m (1,1,1) c)) (rv m (3,1,1) c))
def S26 : State F := State.recv m c (State.recv m c (State.start3 (S25 m c) (4,1,1)) (5,0,0)) (4,0,0)
def S27 : State F := State.recv m c (State.recv m c (State.put (S26 m c) (2,0,0) (res m c 0 0)) (5,1,0)) (4,1,0)
def S28 : State F := State.recv m c (State.recv m c (State.put (S27 m c) (2,1,0) (res m c 1 0)) (5,0,1)) (4,0,1)
def S29 : State F := State.recv m c (State.recv m c (State.put (S28 m c) (2,0,1) (res m c 0 1)) (5,1,1)) (4,1,1)
/-- Everything received and stored; then `n` of the device's own transfers waited for. -/
def S29' : State F := State.put (S29 m c) (2,1,1) (res m c 1 1)
def R (n : ℕ) : State F where
  mem := (S29' m c).mem
  todo := []
  wait := []
  sent := SL.drop n
  got := WL.reverse
  back := (SL.take n).reverse
theorem todo_R : (S29' m c).todo = [] := rfl
theorem wait_R : (S29' m c).wait = [] := rfl
theorem sent_S0 : (S0 m c).sent = [] := rfl
theorem sent_put (s : State F) (i : Slot) (v : V F) : (s.put i v).sent = s.sent := rfl
theorem sent_recv (s : State F) (x : X) : (State.recv m c s x).sent = s.sent := rfl
theorem sent_start0 (s : State F) (x : X) : (s.start0 x).sent = s.sent ++ [x] := rfl
theorem sent_start2 (s : State F) (x : X) : (State.start2 m c s x).sent = s.sent ++ [x] := rfl
theorem sent_start3 (s : State F) (x : X) : (s.start3 x).sent = s.sent ++ [x] := rfl
theorem sent_R : (S29' m c).sent = SL := by
  simp only [S29', S29, S28, S27, S26, S25, S24, S23, S22, S21, S20, S19, S18, S17, S16, S15, S14, S13, S12, S11, S10, S9, S8, S7, S6, S5, S4, S3, S2, S1, sent_put, sent_recv, sent_start0, sent_start2, sent_start3, sent_S0, List.nil_append, List.append_assoc, List.cons_append]
  rfl
theorem got_R : (S29' m c).got = WL.reverse := rfl
theorem ST_R : ST m K c (S29' m c) = ST m K c (R m c 0) := by
  unfold ST
  rw [todo_R, wait_R, sent_R, got_R]
  rfl
def S30 : State F := R m c 2
def S31 : State F := R m c 6
def S32 : State F := R m c 10
def S33 : State F := R m c 13
def S34 : State F := R m c 16
def S35 : State F := R m c 20
def S36 : State F := R m c 23
def S37 : State F := R m c 24

/-! ## The parts -/

theorem part2 (v5 v7 v22 : BitVec 32) {Kt} (h : ST m K c (S2 m c) ⊢ Kt ⟨⟩) :
    ST m K c (S1 m c) ⊢ wp frame (wpE (defs₀ (F := F)) 𝒱₀ (c : Thread nD τ) none) Set.univ (on k0_part2 c v5 v7 v22) Kt := by
  dsimp only [on]
  rw [k0_part2_eq_skeleton]; unfold k0_part2_skel
  simp only [Prog.lift, Prog.bind_op, Prog.bind_ret, Prog.pure_eq_ret]
  refine step (start0 m K (0,1,0) (by decide) rfl (Fin.ext (k0_dev4_eq c)) rfl rfl rfl rfl) ?_
  refine step (start0 m K (0,0,1) (by decide) rfl (Fin.ext (k0_dev5_eq c)) rfl rfl rfl rfl) ?_
  refine step (start0 m K (0,1,1) (by decide) rfl (Fin.ext (k0_dev6_eq c)) rfl rfl rfl rfl) ?_
  exact last h

theorem part3 (v5 v7 : BitVec 32) {Kt} (h : ST m K c (S3 m c) ⊢ Kt (k0_pay1 (xs m c 0 0) (w1stg m c))) :
    ST m K c (S2 m c) ⊢ wp frame (wpE (defs₀ (F := F)) 𝒱₀ (c : Thread nD τ) none) Set.univ (on k0_part3 c v5 v7) Kt := by
  dsimp only [on]
  rw [k0_part3_eq_skeleton]; unfold k0_part3_skel
  simp only [Prog.lift, Prog.bind_op, Prog.bind_ret, Prog.pure_eq_ret]
  refine step (start0 m K (1,0,0) (by decide) rfl (Fin.ext (k0_dev7_eq c)) rfl rfl rfl rfl) ?_
  refine step (start0 m K (1,1,0) (by decide) rfl (Fin.ext (k0_dev8_eq c)) rfl rfl rfl rfl) ?_
  refine step (load5 m K (0,0,0) 0 0 (xs m c 0 0) rfl rfl) ?_
  refine step (loadW1 m K) ?_
  exact last h

theorem part4 (v7 : BitVec 32) {Kt} (h : ST m K c (S4 m c) ⊢ Kt ⟨⟩) :
    ST m K c (S3 m c) ⊢ wp frame (wpE (defs₀ (F := F)) 𝒱₀ (c : Thread nD τ) none) Set.univ (on k0_part4 v7 (k0_pay1 (xs m c 0 0) (w1stg m c))) Kt := by
  dsimp only [on]
  rw [k0_part4_eq_skeleton]; unfold k0_part4_skel
  simp only [Prog.lift, Prog.bind_op, Prog.bind_ret, Prog.pure_eq_ret]
  refine step (loadW2 m K) ?_
  refine step' (load2' m K (1,0,0) 0 rfl rfl) fun _ => ?_
  refine step (store2 m K (1,0,0) 0 rfl rfl (v := fc m c (xs m c 0 0)) rfl) ?_
  refine step (load5 m K (0,1,0) 1 0 (xs m c 1 0) rfl rfl) ?_
  refine step (loadW1 m K) ?_
  refine step (loadW2 m K) ?_
  refine step' (load2' m K (1,1,0) 0 rfl rfl) fun _ => ?_
  refine step (store2 m K (1,1,0) 0 rfl rfl (v := fc m c (xs m c 1 0)) rfl) ?_
  exact last h

theorem part5 (v5 v7 : BitVec 32) {Kt} (h : ST m K c (S5 m c) ⊢ Kt ⟨⟩) :
    ST m K c (S4 m c) ⊢ wp frame (wpE (defs₀ (F := F)) 𝒱₀ (c : Thread nD τ) none) Set.univ (on k0_part5 c v5 v7) Kt := by
  dsimp only [on]
  rw [k0_part5_eq_skeleton]; unfold k0_part5_skel
  simp only [Prog.lift, Prog.bind_op, Prog.bind_ret, Prog.pure_eq_ret]
  refine step (recv m K (0,0,0) rfl rfl rfl (credit (3,0,0)) rfl) ?_
  refine step (start2 m K (2,0,0) rfl rfl rfl (Fin.ext (k0_dev9_eq c)) rfl rfl rfl rfl) ?_
  refine step (recv m K (0,1,0) rfl rfl rfl (credit (3,1,0)) rfl) ?_
  exact last h

theorem part6 (v5 v7 : BitVec 32) {Kt} (h : ST m K c (S6 m c) ⊢ Kt (k0_pay4 (xs m c 0 1) (w1stg m c))) :
    ST m K c (S5 m c) ⊢ wp frame (wpE (defs₀ (F := F)) 𝒱₀ (c : Thread nD τ) none) Set.univ (on k0_part6 c v5 v7) Kt := by
  dsimp only [on]
  rw [k0_part6_eq_skeleton]; unfold k0_part6_skel
  simp only [Prog.lift, Prog.bind_op, Prog.bind_ret, Prog.pure_eq_ret]
  refine step (start2 m K (2,1,0) rfl rfl rfl (Fin.ext (k0_dev10_eq c)) rfl rfl rfl rfl) ?_
  refine step (start0 m K (1,0,1) (by decide) rfl (Fin.ext (k0_dev11_eq c)) rfl rfl rfl rfl) ?_
  refine step (start0 m K (1,1,1) (by decide) rfl (Fin.ext (k0_dev12_eq c)) rfl rfl rfl rfl) ?_
  refine step (load5 m K (0,0,1) 0 1 (xs m c 0 1) rfl rfl) ?_
  refine step (loadW1 m K) ?_
  exact last h

theorem part7 {Kt} (h : ST m K c (S7 m c) ⊢ Kt ⟨⟩) :
    ST m K c (S6 m c) ⊢ wp frame (wpE (defs₀ (F := F)) 𝒱₀ (c : Thread nD τ) none) Set.univ (on k0_part7 (k0_pay4 (xs m c 0 1) (w1stg m c))) Kt := by
  dsimp only [on]
  rw [k0_part7_eq_skeleton]; unfold k0_part7_skel
  simp only [Prog.lift, Prog.bind_op, Prog.bind_ret, Prog.pure_eq_ret]
  refine step (loadW2 m K) ?_
  refine step' (load2' m K (1,0,1) 1 rfl rfl) fun _ => ?_
  refine step (store2 m K (1,0,1) 1 rfl rfl (v := fc m c (xs m c 0 1)) rfl) ?_
  refine step (load5 m K (0,1,1) 1 1 (xs m c 1 1) rfl rfl) ?_
  refine step (loadW1 m K) ?_
  refine step (loadW2 m K) ?_
  refine step' (load2' m K (1,1,1) 1 rfl rfl) fun _ => ?_
  refine step (store2 m K (1,1,1) 1 rfl rfl (v := fc m c (xs m c 1 1)) rfl) ?_
  exact last h

theorem part8 (v5 v7 : BitVec 32) {Kt} (h : ST m K c (S8 m c) ⊢ Kt ⟨⟩) :
    ST m K c (S7 m c) ⊢ wp frame (wpE (defs₀ (F := F)) 𝒱₀ (c : Thread nD τ) none) Set.univ (on k0_part8 c v5 v7) Kt := by
  dsimp only [on]
  rw [k0_part8_eq_skeleton]; unfold k0_part8_skel
  simp only [Prog.lift, Prog.bind_op, Prog.bind_ret, Prog.pure_eq_ret]
  refine step (recv m K (0,0,1) rfl rfl rfl (credit (3,0,1)) rfl) ?_
  refine step (start2 m K (2,0,1) rfl rfl rfl (Fin.ext (k0_dev13_eq c)) rfl rfl rfl rfl) ?_
  refine step (recv m K (0,1,1) rfl rfl rfl (credit (3,1,1)) rfl) ?_
  exact last h

theorem part9 (v5 : BitVec 32) {Kt} (h : ST m K c (S9 m c) ⊢ Kt ⟨⟩) :
    ST m K c (S8 m c) ⊢ wp frame (wpE (defs₀ (F := F)) 𝒱₀ (c : Thread nD τ) none) Set.univ (on k0_part9 c v5) Kt := by
  dsimp only [on]
  rw [k0_part9_eq_skeleton]; unfold k0_part9_skel
  simp only [Prog.lift, Prog.bind_op, Prog.bind_ret, Prog.pure_eq_ret]
  refine step (start2 m K (2,1,1) rfl rfl rfl (Fin.ext (k0_dev14_eq c)) rfl rfl rfl rfl) ?_
  refine step (compute m K (3,0,0) (8,0,0) 0 2 0 (rv m (0,0,0) c) rfl rfl rfl rfl (pay7_eq _ _ _)) ?_
  exact last h

theorem part10 (v5 : BitVec 32) {Kt} (h : ∀ b, ST m K c (S10 m c) ⊢ Kt b) :
    ST m K c (S9 m c) ⊢ wp frame (wpE (defs₀ (F := F)) 𝒱₀ (c : Thread nD τ) none) Set.univ (on k0_part10 c v5) Kt := by
  dsimp only [on]
  rw [k0_part10_eq_skeleton]; unfold k0_part10_skel
  simp only [Prog.lift, Prog.bind_op, Prog.bind_ret, Prog.pure_eq_ret]
  refine step (start3 m K (5,0,0) rfl rfl rfl (Fin.ext (k0_dev15_eq c)) rfl rfl rfl rfl) ?_
  refine step (compute m K (3,1,0) (8,1,0) 0 2 0 (rv m (0,1,0) c) rfl rfl rfl rfl (pay8_eq _ _ _)) ?_
  exact last (h _)

theorem part11 (v5 v7 w : BitVec 32) {Kt} (h : ∀ r, ST m K c (S11 m c) ⊢ Kt r) :
    ST m K c (S10 m c) ⊢ wp frame (wpE (defs₀ (F := F)) 𝒱₀ (c : Thread nD τ) none) Set.univ (on k0_part11 c v5 v7 w) Kt := by
  dsimp only [on]
  rw [k0_part11_eq_skeleton]; unfold k0_part11_skel
  simp only [Prog.lift, Prog.bind_op, Prog.bind_ret, Prog.pure_eq_ret]
  refine step (start3 m K (5,1,0) rfl rfl rfl (Fin.ext (k0_dev16_eq c)) rfl rfl rfl rfl) ?_
  refine step (compute m K (3,0,1) (8,0,1) 0 2 1 (rv m (0,0,1) c) rfl rfl rfl rfl (pay9_eq _ _ _)) ?_
  exact last (h _)

theorem part12 (v7 w w2 : BitVec 32) {Kt} (h : ST m K c (S12 m c) ⊢ Kt ⟨⟩) :
    ST m K c (S11 m c) ⊢ wp frame (wpE (defs₀ (F := F)) 𝒱₀ (c : Thread nD τ) none) Set.univ (on k0_part12 c v7 w w2) Kt := by
  dsimp only [on]
  rw [k0_part12_eq_skeleton]; unfold k0_part12_skel
  simp only [Prog.lift, Prog.bind_op, Prog.bind_ret, Prog.pure_eq_ret]
  refine step (start3 m K (5,0,1) rfl rfl rfl (Fin.ext (k0_dev17_eq c)) rfl rfl rfl rfl) ?_
  refine step (compute m K (3,1,1) (8,1,1) 0 2 1 (rv m (0,1,1) c) rfl rfl rfl rfl (pay10_eq _ _ _)) ?_
  exact last h

theorem part13 (v5 : BitVec 32) {Kt} (h : ST m K c (S13 m c) ⊢ Kt (fc m c (rv m (1,0,0) c))) :
    ST m K c (S12 m c) ⊢ wp frame (wpE (defs₀ (F := F)) 𝒱₀ (c : Thread nD τ) none) Set.univ (on k0_part13 c v5) Kt := by
  dsimp only [on]
  rw [k0_part13_eq_skeleton]; unfold k0_part13_skel
  simp only [Prog.lift, Prog.bind_op, Prog.bind_ret, Prog.pure_eq_ret]
  refine step (start3 m K (5,1,1) rfl rfl rfl (Fin.ext (k0_dev18_eq c)) rfl rfl rfl rfl) ?_
  refine step (recv m K (1,0,0) rfl rfl rfl (credit (4,0,0)) rfl) ?_
  refine step (load3 m K (4,0,0) 1 0 (rv m (1,0,0) c) rfl rfl) ?_
  refine step (loadW1 m K) ?_
  refine step (loadW2 m K) ?_
  rw [pay11_eq]
  exact last h

theorem part14 (v7 : BitVec 32) {Kt} (h : ST m K c (S14 m c) ⊢ Kt ⟨⟩) :
    ST m K c (S13 m c) ⊢ wp frame (wpE (defs₀ (F := F)) 𝒱₀ (c : Thread nD τ) none) Set.univ (on k0_part14 v7 (fc m c (rv m (1,0,0) c))) Kt := by
  dsimp only [on]
  rw [k0_part14_eq_skeleton]; unfold k0_part14_skel
  simp only [Prog.lift, Prog.bind_op, Prog.bind_ret, Prog.pure_eq_ret]
  refine step' (load3' m K (6,0,0) 0 0 rfl rfl) fun _ => ?_
  refine step (store3 m K (6,0,0) 0 0 rfl rfl (v := fc m c (rv m (1,0,0) c)) rfl) ?_
  refine step (recv m K (1,1,0) rfl rfl rfl (credit (4,1,0)) rfl) ?_
  refine step (compute m K (4,1,0) (6,1,0) 1 0 0 (rv m (1,1,0) c) rfl rfl rfl rfl (pay13_eq _ _ _)) ?_
  exact last h

theorem part15 (v5 : BitVec 32) {Kt} (h : ∀ b, ST m K c (S15 m c) ⊢ Kt b) :
    ST m K c (S14 m c) ⊢ wp frame (wpE (defs₀ (F := F)) 𝒱₀ (c : Thread nD τ) none) Set.univ (on k0_part15 v5) Kt := by
  dsimp only [on]
  rw [k0_part15_eq_skeleton]; unfold k0_part15_skel
  simp only [Prog.lift, Prog.bind_op, Prog.bind_ret, Prog.pure_eq_ret]
  refine step (recv m K (1,0,1) rfl rfl rfl (credit (4,0,1)) rfl) ?_
  refine step (compute m K (4,0,1) (6,0,1) 1 0 1 (rv m (1,0,1) c) rfl rfl rfl rfl (pay14_eq _ _ _)) ?_
  exact last (h _)

theorem part16 (v7 w : BitVec 32) {Kt} (h : ST m K c (S16 m c) ⊢ Kt ⟨⟩) :
    ST m K c (S15 m c) ⊢ wp frame (wpE (defs₀ (F := F)) 𝒱₀ (c : Thread nD τ) none) Set.univ (on k0_part16 v7 w) Kt := by
  dsimp only [on]
  rw [k0_part16_eq_skeleton]; unfold k0_part16_skel
  simp only [Prog.lift, Prog.bind_op, Prog.bind_ret, Prog.pure_eq_ret]
  refine step (recv m K (1,1,1) rfl rfl rfl (credit (4,1,1)) rfl) ?_
  refine step (compute m K (4,1,1) (6,1,1) 1 0 1 (rv m (1,1,1) c) rfl rfl rfl rfl (pay15_eq _ _ _)) ?_
  exact last h

theorem part17 (v7 : BitVec 32) {Kt} (h : ST m K c (S17 m c) ⊢ Kt ⟨⟩) :
    ST m K c (S16 m c) ⊢ wp frame (wpE (defs₀ (F := F)) 𝒱₀ (c : Thread nD τ) none) Set.univ (on k0_part17 v7) Kt := by
  dsimp only [on]
  rw [k0_part17_eq_skeleton]; unfold k0_part17_skel
  simp only [Prog.lift, Prog.bind_op, Prog.bind_ret, Prog.pure_eq_ret]
  refine step (recv m K (2,0,0) rfl rfl rfl (credit (5,0,0)) rfl) ?_
  refine step (compute m K (5,0,0) (7,0,0) 2 1 0 (rv m (2,0,0) c) rfl rfl rfl rfl (pay16_eq _ _ _)) ?_
  exact last h

theorem part18 (v5 : BitVec 32) {Kt} (h : ∀ u, ST m K c (S18 m c) ⊢ Kt ⟨k0_pay17 (up (rv m (2,1,0) c)) (w1stg m c) (w2stg m c), u⟩) :
    ST m K c (S17 m c) ⊢ wp frame (wpE (defs₀ (F := F)) 𝒱₀ (c : Thread nD τ) none) Set.univ (on k0_part18 c v5) Kt := by
  dsimp only [on]
  rw [k0_part18_eq_skeleton]; unfold k0_part18_skel
  simp only [Prog.lift, Prog.bind_op, Prog.bind_ret, Prog.pure_eq_ret]
  refine step (start3 m K (3,0,0) rfl rfl rfl (Fin.ext (k0_dev19_eq c)) rfl rfl rfl rfl) ?_
  refine step (recv m K (2,1,0) rfl rfl rfl (credit (5,1,0)) rfl) ?_
  refine step (load3 m K (5,1,0) 2 0 (rv m (2,1,0) c) rfl rfl) ?_
  refine step (loadW1 m K) ?_
  refine step (loadW2 m K) ?_
  refine step' (load3' m K (7,1,0) 1 0 rfl rfl) fun _ => ?_
  exact last (h _)

theorem part19 (v5 v7 : BitVec 32) (u : FVec F S1x128x512 .f32) {Kt} (h : ST m K c (S19 m c) ⊢ Kt ⟨k0_pay19 (up (rv m (2,0,1) c)) (w1stg m c), k0_pay20⟩) :
    ST m K c (S18 m c) ⊢ wp frame (wpE (defs₀ (F := F)) 𝒱₀ (c : Thread nD τ) none) Set.univ (on k0_part19 c v5 v7 (k0_pay17 (up (rv m (2,1,0) c)) (w1stg m c) (w2stg m c)) u) Kt := by
  dsimp only [on]
  rw [k0_part19_eq_skeleton]; unfold k0_part19_skel
  simp only [Prog.lift, Prog.bind_op, Prog.bind_ret, Prog.pure_eq_ret]
  refine step (store3 m K (7,1,0) 1 0 rfl rfl (v := fc m c (rv m (2,1,0) c)) (pay18_eq _ _ _)) ?_
  refine step (start3 m K (3,1,0) rfl rfl rfl (Fin.ext (k0_dev20_eq c)) rfl rfl rfl rfl) ?_
  refine step (recv m K (2,0,1) rfl rfl rfl (credit (5,0,1)) rfl) ?_
  refine step (load3 m K (5,0,1) 2 1 (rv m (2,0,1) c) rfl rfl) ?_
  refine step (loadW1 m K) ?_
  exact last h

theorem part20 (v5 v7 : BitVec 32) {Kt} (h : ST m K c (S20 m c) ⊢ Kt ⟨⟩) :
    ST m K c (S19 m c) ⊢ wp frame (wpE (defs₀ (F := F)) 𝒱₀ (c : Thread nD τ) none) Set.univ (on k0_part20 c v5 v7 (k0_pay19 (up (rv m (2,0,1) c)) (w1stg m c)) k0_pay20) Kt := by
  dsimp only [on]
  rw [k0_part20_eq_skeleton]; unfold k0_part20_skel
  simp only [Prog.lift, Prog.bind_op, Prog.bind_ret, Prog.pure_eq_ret]
  refine step (loadW2 m K) ?_
  refine step' (load3' m K (7,0,1) 1 1 rfl rfl) fun _ => ?_
  refine step (store3 m K (7,0,1) 1 1 rfl rfl (v := fc m c (rv m (2,0,1) c)) (pay21_eq _ _ _)) ?_
  refine step (start3 m K (3,0,1) rfl rfl rfl (Fin.ext (k0_dev21_eq c)) rfl rfl rfl rfl) ?_
  exact last h

theorem part21 (v5 : BitVec 32) {Kt} (h : ST m K c (S21 m c) ⊢ Kt ⟨⟩) :
    ST m K c (S20 m c) ⊢ wp frame (wpE (defs₀ (F := F)) 𝒱₀ (c : Thread nD τ) none) Set.univ (on k0_part21 v5) Kt := by
  dsimp only [on]
  rw [k0_part21_eq_skeleton]; unfold k0_part21_skel
  simp only [Prog.lift, Prog.bind_op, Prog.bind_ret, Prog.pure_eq_ret]
  refine step (recv m K (2,1,1) rfl rfl rfl (credit (5,1,1)) rfl) ?_
  refine step (compute m K (5,1,1) (7,1,1) 2 1 1 (rv m (2,1,1) c) rfl rfl rfl rfl (pay22_eq _ _ _)) ?_
  exact last h

theorem part22 (v7 : BitVec 32) {Kt} (h : ST m K c (S22 m c) ⊢ Kt ⟨⟩) :
    ST m K c (S21 m c) ⊢ wp frame (wpE (defs₀ (F := F)) 𝒱₀ (c : Thread nD τ) none) Set.univ (on k0_part22 c v7) Kt := by
  dsimp only [on]
  rw [k0_part22_eq_skeleton]; unfold k0_part22_skel
  simp only [Prog.lift, Prog.bind_op, Prog.bind_ret, Prog.pure_eq_ret]
  refine step (start3 m K (3,1,1) rfl rfl rfl (Fin.ext (k0_dev22_eq c)) rfl rfl rfl rfl) ?_
  refine step (recv m K (3,0,0) rfl rfl rfl (credit (9,0,0)) rfl) ?_
  refine step (combine m K (6,0,0) (9,0,0) 0 0 0 (fc m c (rv m (1,0,0) c)) (rv m (3,0,0) c) rfl rfl rfl rfl (pay23_eq _ _)) ?_
  exact last h

theorem part23 (v5 : BitVec 32) {Kt} (h : ST m K c (S23 m c) ⊢ Kt ⟨⟩) :
    ST m K c (S22 m c) ⊢ wp frame (wpE (defs₀ (F := F)) 𝒱₀ (c : Thread nD τ) none) Set.univ (on k0_part23 c v5) Kt := by
  dsimp only [on]
  rw [k0_part23_eq_skeleton]; unfold k0_part23_skel
  simp only [Prog.lift, Prog.bind_op, Prog.bind_ret, Prog.pure_eq_ret]
  refine step (start3 m K (4,0,0) rfl rfl rfl (Fin.ext (k0_dev23_eq c)) rfl rfl rfl rfl) ?_
  refine step (recv m K (3,1,0) rfl rfl rfl (credit (9,1,0)) rfl) ?_
  refine step (combine m K (6,1,0) (9,1,0) 0 0 0 (fc m c (rv m (1,1,0) c)) (rv m (3,1,0) c) rfl rfl rfl rfl (pay24_eq _ _)) ?_
  exact last h

theorem part24 (v7 : BitVec 32) {Kt} (h : ST m K c (S24 m c) ⊢ Kt ⟨⟩) :
    ST m K c (S23 m c) ⊢ wp frame (wpE (defs₀ (F := F)) 𝒱₀ (c : Thread nD τ) none) Set.univ (on k0_part24 c v7) Kt := by
  dsimp only [on]
  rw [k0_part24_eq_skeleton]; unfold k0_part24_skel
  simp only [Prog.lift, Prog.bind_op, Prog.bind_ret, Prog.pure_eq_ret]
  refine step (start3 m K (4,1,0) rfl rfl rfl (Fin.ext (k0_dev24_eq c)) rfl rfl rfl rfl) ?_
  refine step (recv m K (3,0,1) rfl rfl rfl (credit (9,0,1)) rfl) ?_
  refine step (combine m K (6,0,1) (9,0,1) 0 0 1 (fc m c (rv m (1,0,1) c)) (rv m (3,0,1) c) rfl rfl rfl rfl (pay25_eq _ _)) ?_
  exact last h

theorem part25 (v5 : BitVec 32) {Kt} (h : ST m K c (S25 m c) ⊢ Kt ⟨⟩) :
    ST m K c (S24 m c) ⊢ wp frame (wpE (defs₀ (F := F)) 𝒱₀ (c : Thread nD τ) none) Set.univ (on k0_part25 c v5) Kt := by
  dsimp only [on]
  rw [k0_part25_eq_skeleton]; unfold k0_part25_skel
  simp only [Prog.lift, Prog.bind_op, Prog.bind_ret, Prog.pure_eq_ret]
  refine step (start3 m K (4,0,1) rfl rfl rfl (Fin.ext (k0_dev25_eq c)) rfl rfl rfl rfl) ?_
  refine step (recv m K (3,1,1) rfl rfl rfl (credit (9,1,1)) rfl) ?_
  refine step (combine m K (6,1,1) (9,1,1) 0 0 1 (fc m c (rv m (1,1,1) c)) (rv m (3,1,1) c) rfl rfl rfl rfl (pay26_eq _ _)) ?_
  exact last h

theorem part26 (v5 v7 : BitVec 32) {Kt} (h : ST m K c (S26 m c) ⊢ Kt (fc m c (xs m c 0 0))) :
    ST m K c (S25 m c) ⊢ wp frame (wpE (defs₀ (F := F)) 𝒱₀ (c : Thread nD τ) none) Set.univ (on k0_part26 c v5 v7) Kt := by
  dsimp only [on]
  rw [k0_part26_eq_skeleton]; unfold k0_part26_skel
  simp only [Prog.lift, Prog.bind_op, Prog.bind_ret, Prog.pure_eq_ret]
  refine step (start3 m K (4,1,1) rfl rfl rfl (Fin.ext (k0_dev26_eq c)) rfl rfl rfl rfl) ?_
  refine step (recv m K (5,0,0) rfl rfl rfl (credit (11,0,0)) rfl) ?_
  refine step (recv m K (4,0,0) rfl rfl rfl (credit (10,0,0)) rfl) ?_
  refine step (load2 m K (1,0,0) 0 (fc m c (xs m c 0 0)) rfl rfl) ?_
  exact last h

theorem part27 (v5 v7 : BitVec 32) {Kt} (h : ST m K c (S27 m c) ⊢ Kt (fc m c (xs m c 1 0))) :
    ST m K c (S26 m c) ⊢ wp frame (wpE (defs₀ (F := F)) 𝒱₀ (c : Thread nD τ) none) Set.univ (on k0_part27 v5 v7 (fc m c (xs m c 0 0))) Kt := by
  dsimp only [on]
  rw [k0_part27_eq_skeleton]; unfold k0_part27_skel
  simp only [Prog.lift, Prog.bind_op, Prog.bind_ret, Prog.pure_eq_ret]
  refine step (load3 m K (10,0,0) 1 0 (rv m (4,0,0) c) rfl rfl) ?_
  refine step (load3 m K (11,0,0) 2 0 (rv m (5,0,0) c) rfl rfl) ?_
  refine step' (load5' m K (2,0,0) 0 0 rfl rfl) fun _ => ?_
  refine step (store5 m K (2,0,0) 0 0 rfl rfl (v := res m c 0 0) (pay27_eq _ _ _)) ?_
  refine step (recv m K (5,1,0) rfl rfl rfl (credit (11,1,0)) rfl) ?_
  refine step (recv m K (4,1,0) rfl rfl rfl (credit (10,1,0)) rfl) ?_
  refine step (load2 m K (1,1,0) 0 (fc m c (xs m c 1 0)) rfl rfl) ?_
  exact last h

theorem part28 (v5 v7 : BitVec 32) {Kt} (h : ST m K c (S28 m c) ⊢ Kt (fc m c (xs m c 0 1))) :
    ST m K c (S27 m c) ⊢ wp frame (wpE (defs₀ (F := F)) 𝒱₀ (c : Thread nD τ) none) Set.univ (on k0_part28 v5 v7 (fc m c (xs m c 1 0))) Kt := by
  dsimp only [on]
  rw [k0_part28_eq_skeleton]; unfold k0_part28_skel
  simp only [Prog.lift, Prog.bind_op, Prog.bind_ret, Prog.pure_eq_ret]
  refine step (load3 m K (10,1,0) 1 0 (rv m (4,1,0) c) rfl rfl) ?_
  refine step (load3 m K (11,1,0) 2 0 (rv m (5,1,0) c) rfl rfl) ?_
  refine step' (load5' m K (2,1,0) 1 0 rfl rfl) fun _ => ?_
  refine step (store5 m K (2,1,0) 1 0 rfl rfl (v := res m c 1 0) (pay28_eq _ _ _)) ?_
  refine step (recv m K (5,0,1) rfl rfl rfl (credit (11,0,1)) rfl) ?_
  refine step (recv m K (4,0,1) rfl rfl rfl (credit (10,0,1)) rfl) ?_
  refine step (load2 m K (1,0,1) 1 (fc m c (xs m c 0 1)) rfl rfl) ?_
  exact last h

theorem part29 (v5 v7 : BitVec 32) {Kt} (h : ST m K c (S29 m c) ⊢ Kt (fc m c (xs m c 1 1))) :
    ST m K c (S28 m c) ⊢ wp frame (wpE (defs₀ (F := F)) 𝒱₀ (c : Thread nD τ) none) Set.univ (on k0_part29 v5 v7 (fc m c (xs m c 0 1))) Kt := by
  dsimp only [on]
  rw [k0_part29_eq_skeleton]; unfold k0_part29_skel
  simp only [Prog.lift, Prog.bind_op, Prog.bind_ret, Prog.pure_eq_ret]
  refine step (load3 m K (10,0,1) 1 1 (rv m (4,0,1) c) rfl rfl) ?_
  refine step (load3 m K (11,0,1) 2 1 (rv m (5,0,1) c) rfl rfl) ?_
  refine step' (load5' m K (2,0,1) 0 1 rfl rfl) fun _ => ?_
  refine step (store5 m K (2,0,1) 0 1 rfl rfl (v := res m c 0 1) (pay29_eq _ _ _)) ?_
  refine step (recv m K (5,1,1) rfl rfl rfl (credit (11,1,1)) rfl) ?_
  refine step (recv m K (4,1,1) rfl rfl rfl (credit (10,1,1)) rfl) ?_
  refine step (load2 m K (1,1,1) 1 (fc m c (xs m c 1 1)) rfl rfl) ?_
  exact last h

theorem part30 {Kt} (h : ST m K c (S30 m c) ⊢ Kt ⟨⟩) :
    ST m K c (S29 m c) ⊢ wp frame (wpE (defs₀ (F := F)) 𝒱₀ (c : Thread nD τ) none) Set.univ (on k0_part30 (fc m c (xs m c 1 1))) Kt := by
  dsimp only [on]
  rw [k0_part30_eq_skeleton]; unfold k0_part30_skel
  simp only [Prog.lift, Prog.bind_op, Prog.bind_ret, Prog.pure_eq_ret]
  refine step (load3 m K (10,1,1) 1 1 (rv m (4,1,1) c) rfl rfl) ?_
  refine step (load3 m K (11,1,1) 2 1 (rv m (5,1,1) c) rfl rfl) ?_
  refine step' (load5' m K (2,1,1) 1 1 rfl rfl) fun _ => ?_
  refine step (store5 m K (2,1,1) 1 1 rfl rfl (v := res m c 1 1) (pay30_eq _ _ _)) ?_
  refine (Entails.of_eq (ST_R m K c)).trans ?_
  refine step (ret m K (s := R m c 0) (0,0,0) rfl rfl (credit (0,0,0)) rfl) ?_
  refine step (ret m K (s := R m c 1) (0,1,0) rfl rfl (credit (0,1,0)) rfl) ?_
  exact last h

theorem part31 {Kt} (h : ST m K c (S31 m c) ⊢ Kt ⟨⟩) :
    ST m K c (S30 m c) ⊢ wp frame (wpE (defs₀ (F := F)) 𝒱₀ (c : Thread nD τ) none) Set.univ (on k0_part31 ) Kt := by
  dsimp only [on]
  rw [k0_part31_eq_skeleton]; unfold k0_part31_skel
  simp only [Prog.lift, Prog.bind_op, Prog.bind_ret, Prog.pure_eq_ret]
  refine step (ret m K (s := R m c 2) (0,0,1) rfl rfl (credit (0,0,1)) rfl) ?_
  refine step (ret m K (s := R m c 3) (0,1,1) rfl rfl (credit (0,1,1)) rfl) ?_
  refine step (ret m K (s := R m c 4) (1,0,0) rfl rfl (credit (0,0,0)) rfl) ?_
  refine step (ret m K (s := R m c 5) (1,1,0) rfl rfl (credit (0,1,0)) rfl) ?_
  exact last h

theorem part32 {Kt} (h : ST m K c (S32 m c) ⊢ Kt ⟨⟩) :
    ST m K c (S31 m c) ⊢ wp frame (wpE (defs₀ (F := F)) 𝒱₀ (c : Thread nD τ) none) Set.univ (on k0_part32 ) Kt := by
  dsimp only [on]
  rw [k0_part32_eq_skeleton]; unfold k0_part32_skel
  simp only [Prog.lift, Prog.bind_op, Prog.bind_ret, Prog.pure_eq_ret]
  refine step (ret m K (s := R m c 6) (2,0,0) rfl rfl (credit (3,0,0)) rfl) ?_
  refine step (ret m K (s := R m c 7) (2,1,0) rfl rfl (credit (3,1,0)) rfl) ?_
  refine step (ret m K (s := R m c 8) (1,0,1) rfl rfl (credit (0,0,1)) rfl) ?_
  refine step (ret m K (s := R m c 9) (1,1,1) rfl rfl (credit (0,1,1)) rfl) ?_
  exact last h

theorem part33 {Kt} (h : ST m K c (S33 m c) ⊢ Kt ⟨⟩) :
    ST m K c (S32 m c) ⊢ wp frame (wpE (defs₀ (F := F)) 𝒱₀ (c : Thread nD τ) none) Set.univ (on k0_part33 ) Kt := by
  dsimp only [on]
  rw [k0_part33_eq_skeleton]; unfold k0_part33_skel
  simp only [Prog.lift, Prog.bind_op, Prog.bind_ret, Prog.pure_eq_ret]
  refine step (ret m K (s := R m c 10) (2,0,1) rfl rfl (credit (3,0,1)) rfl) ?_
  refine step (ret m K (s := R m c 11) (2,1,1) rfl rfl (credit (3,1,1)) rfl) ?_
  refine step (ret m K (s := R m c 12) (5,0,0) rfl rfl (credit (8,0,0)) rfl) ?_
  exact last h

theorem part34 {Kt} (h : ST m K c (S34 m c) ⊢ Kt ⟨⟩) :
    ST m K c (S33 m c) ⊢ wp frame (wpE (defs₀ (F := F)) 𝒱₀ (c : Thread nD τ) none) Set.univ (on k0_part34 ) Kt := by
  dsimp only [on]
  rw [k0_part34_eq_skeleton]; unfold k0_part34_skel
  simp only [Prog.lift, Prog.bind_op, Prog.bind_ret, Prog.pure_eq_ret]
  refine step (ret m K (s := R m c 13) (5,1,0) rfl rfl (credit (8,1,0)) rfl) ?_
  refine step (ret m K (s := R m c 14) (5,0,1) rfl rfl (credit (8,0,1)) rfl) ?_
  refine step (ret m K (s := R m c 15) (5,1,1) rfl rfl (credit (8,1,1)) rfl) ?_
  exact last h

theorem part35 {Kt} (h : ST m K c (S35 m c) ⊢ Kt ⟨⟩) :
    ST m K c (S34 m c) ⊢ wp frame (wpE (defs₀ (F := F)) 𝒱₀ (c : Thread nD τ) none) Set.univ (on k0_part35 ) Kt := by
  dsimp only [on]
  rw [k0_part35_eq_skeleton]; unfold k0_part35_skel
  simp only [Prog.lift, Prog.bind_op, Prog.bind_ret, Prog.pure_eq_ret]
  refine step (ret m K (s := R m c 16) (3,0,0) rfl rfl (credit (7,0,0)) rfl) ?_
  refine step (ret m K (s := R m c 17) (3,1,0) rfl rfl (credit (7,1,0)) rfl) ?_
  refine step (ret m K (s := R m c 18) (3,0,1) rfl rfl (credit (7,0,1)) rfl) ?_
  refine step (ret m K (s := R m c 19) (3,1,1) rfl rfl (credit (7,1,1)) rfl) ?_
  exact last h

theorem part36 {Kt} (h : ST m K c (S36 m c) ⊢ Kt ⟨⟩) :
    ST m K c (S35 m c) ⊢ wp frame (wpE (defs₀ (F := F)) 𝒱₀ (c : Thread nD τ) none) Set.univ (on k0_part36 ) Kt := by
  dsimp only [on]
  rw [k0_part36_eq_skeleton]; unfold k0_part36_skel
  simp only [Prog.lift, Prog.bind_op, Prog.bind_ret, Prog.pure_eq_ret]
  refine step (ret m K (s := R m c 20) (4,0,0) rfl rfl (credit (6,0,0)) rfl) ?_
  refine step (ret m K (s := R m c 21) (4,1,0) rfl rfl (credit (6,1,0)) rfl) ?_
  refine step (ret m K (s := R m c 22) (4,0,1) rfl rfl (credit (6,0,1)) rfl) ?_
  exact last h

end Cert.KProof

end
-- ==== Proof.Whole.lean ====
/-
# Buffers and their slots

A block of 512 rows, an own-product buffer and a three-fold buffer are the slots they are cut into: each owned whole gives
its slots, and the slots give it back.
-/
module

public import proofs.«01_k».proof.Proof.Access

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Every element type has a value: a bit pattern's. -/
theorem elt_nonempty (e : EltTy) : Nonempty (Elt F e) := by
  cases e <;> first | exact ⟨(0 : BitVec _)⟩ | exact ⟨FloatOps.ofBits _ 0⟩

/-! ## The slots are disjoint and cover -/

theorem rc5_disj (t t' : Fin 2 × Fin 2) (h : t ≠ t') : Disjoint (rc5 t.1 t.2).set (rc5 t'.1 t'.2).set := by
  refine Rect.unit_disjoint 0 ?_
  revert t t'; decide
theorem rc5_cover : (Finset.univ.biUnion fun t : Fin 2 × Fin 2 => (rc5 t.1 t.2).set) = Finset.univ := by
  refine Finset.eq_univ_of_forall fun i => Finset.mem_biUnion.mpr ?_
  have h0 : (i 0).val < 512 := (i 0).isLt
  have h1 : (i 1).val < 512 := (i 1).isLt
  refine ⟨(⟨(i 0).val / 256, by omega⟩, ⟨(i 0).val % 256 / 128, by omega⟩), Finset.mem_univ _, Rect.mem_set_unit.mpr fun a => ?_⟩
  fin_cases a
  · show 256 * ((i 0).val / 256) + 128 * ((i 0).val % 256 / 128) ≤ (i 0).val ∧ (i 0).val < 256 * ((i 0).val / 256) + 128 * ((i 0).val % 256 / 128) + 128
    omega
  · show 0 ≤ (i 1).val ∧ (i 1).val < 0 + 512
    omega

theorem rc2_disj (t t' : Fin 2) (h : t ≠ t') : Disjoint (rc2 t).set (rc2 t').set := by
  refine Rect.unit_disjoint 0 ?_
  revert t t'; decide
theorem rc2_cover : (Finset.univ.biUnion fun t : Fin 2 => (rc2 t).set) = Finset.univ := by
  refine Finset.eq_univ_of_forall fun i => Finset.mem_biUnion.mpr ?_
  have h0 : (i 0).val < 256 := (i 0).isLt
  have h1 : (i 1).val < 512 := (i 1).isLt
  refine ⟨⟨(i 0).val / 128, by omega⟩, Finset.mem_univ _, Rect.mem_set_unit.mpr fun a => ?_⟩
  fin_cases a
  · show 128 * ((i 0).val / 128) ≤ (i 0).val ∧ (i 0).val < 128 * ((i 0).val / 128) + 128
    omega
  · show 0 ≤ (i 1).val ∧ (i 1).val < 0 + 512
    omega

theorem rc3_disj (t t' : Fin 3 × Fin 2) (h : t ≠ t') : Disjoint (rc3 t.1 t.2).set (rc3 t'.1 t'.2).set := by
  have : t.1 ≠ t'.1 ∨ t.2 ≠ t'.2 := by
    by_contra hc
    push Not at hc
    exact h (Prod.ext hc.1 hc.2)
  rcases this with h | h
  · refine Rect.unit_disjoint 0 ?_
    revert t t'; decide
  · refine Rect.unit_disjoint 1 ?_
    revert t t'; decide
theorem rc3_cover : (Finset.univ.biUnion fun t : Fin 3 × Fin 2 => (rc3 t.1 t.2).set) = Finset.univ := by
  refine Finset.eq_univ_of_forall fun i => Finset.mem_biUnion.mpr ?_
  have h0 : (i 0).val < 3 := (i 0).isLt
  have h1 : (i 1).val < 256 := (i 1).isLt
  have h2 : (i 2).val < 512 := (i 2).isLt
  refine ⟨(⟨(i 0).val, h0⟩, ⟨(i 1).val / 128, by omega⟩), Finset.mem_univ _, Rect.mem_set_unit.mpr fun a => ?_⟩
  fin_cases a
  · show (i 0).val ≤ (i 0).val ∧ (i 0).val < (i 0).val + 1
    omega
  · show 128 * ((i 1).val / 128) ≤ (i 1).val ∧ (i 1).val < 128 * ((i 1).val / 128) + 128
    omega
  · show 0 ≤ (i 2).val ∧ (i 2).val < 0 + 512
    omega

/-! ## A family of slices at some contents -/

theorem some_of {A : Type} (P : A → sProp 𝕄) (a : A) : P a ⊢ iprop(∃ a, P a) := by
  iintro H; iexists a; iexact H

section Family
variable {c : Dev nD} {T : Type} [Fintype T] [DecidableEq T] {sh : Shape} (M : Memref sig .tc .vmem sh .f32) (r : T → Rect sh)
  (hr : ∀ t a, (r t).stride a = 1) (hd : ∀ t t', t ≠ t' → Disjoint (r t).set (r t').set) (hcov : (Finset.univ.biUnion fun t => (r t).set) = Finset.univ)

include hd hcov in
theorem split_any :
    iprop(∃ v, owns (c : Thread nD τ) M fullShare v)
      ⊢ bigSep Finset.univ fun t => (iprop(∃ v : (r t).shape.Idx → Elt F .f32, owns (c : Thread nD τ) (M.slice (r t) (hr t)) fullShare v) : sProp 𝕄) := by
  iintro ⟨%v, H⟩
  iapply ((owns_rects (c : Thread nD τ) M fullShare r hr hd hcov v).trans <| bigSep_mono fun t _ => some_of (fun v : (r t).shape.Idx → Elt F .f32 => owns (c : Thread nD τ) (M.slice (r t) (hr t)) fullShare v) fun j => v ((r t).emb j)) $$ H

include hd hcov in
theorem join_any :
    (bigSep Finset.univ fun t => (iprop(∃ v : (r t).shape.Idx → Elt F .f32, owns (c : Thread nD τ) (M.slice (r t) (hr t)) fullShare v) : sProp 𝕄))
      ⊢ iprop(∃ v, owns (c : Thread nD τ) M fullShare v) := by
  haveI (e : EltTy) : Nonempty (Elt F e) := elt_nonempty e
  iintro H
  ihave H := (BI.bigSep_exists_pi Finset.univ (fun (t : T) (v : (r t).shape.Idx → Elt F .f32) => owns (c : Thread nD τ) (M.slice (r t) (hr t)) fullShare v)) $$ H
  icases H with ⟨%vs, H⟩
  have hin (t : T) (j : (r t).shape.Idx) : (r t).emb j ∈ (r t).set := by rw [← Rect.map_emb_univ]; exact Finset.mem_map_of_mem _ (Finset.mem_univ j)
  have hX : ∃ w : sh.Idx → Elt F .f32, ∀ t j, w ((r t).emb j) = vs t j := by
    classical
    refine ⟨fun i => if h : ∃ t : T, ∃ j, (r t).emb j = i then vs h.choose h.choose_spec.choose else (elt_nonempty .f32).some, fun t j => ?_⟩
    have h : ∃ t' : T, ∃ j', (r t').emb j' = (r t).emb j := ⟨t, j, rfl⟩
    show (if h : ∃ t' : T, ∃ j', (r t').emb j' = (r t).emb j then vs h.choose h.choose_spec.choose else _) = _
    rw [dif_pos h]
    have e := h.choose_spec.choose_spec
    have ht : h.choose = t := by
      by_contra hne
      exact Finset.disjoint_left.mp (hd _ _ hne) (hin _ h.choose_spec.choose) (by rw [e]; exact hin t j)
    generalize h.choose_spec.choose = j' at e ⊢
    revert j'
    rw [ht]
    intro j' e
    exact congrArg _ ((r t).emb.injective e)
  obtain ⟨w, hw⟩ := hX
  have hvs : vs = fun t j => w ((r t).emb j) := by funext t j; exact (hw t j).symm
  subst hvs
  iexists w
  iapply (owns_of_rects (c : Thread nD τ) M fullShare r hr hd hcov w) $$ H

end Family

/-- A slot of a three-fold buffer is the plane it drops an axis of. -/
theorem owns_sl3 {c : Dev nD} (M : Memref sig .tc .vmem S3x256x512 .f32) (i : Fin 3) (g : Fin 2) (q : PosShare TreeShare) (v : V F) :
    (owns (c : Thread nD τ) (sl3 M i g) q v : sProp 𝕄) = owns (c : Thread nD τ) (M.slice (rc3 i g) (fun _ => rfl)) q (up v) := by
  unfold owns
  refine BI.equiv_iff.mp ⟨?_, ?_⟩
  · show iprop(∃ f, ⌜(sl3 M i g).view.read (Elt F) f = v⌝ ∗ ((sl3 M i g).view.loc (c : Thread nD τ) ↦[(sl3 M i g).view.set]{q} f))
      ⊢ (iprop(∃ f, ⌜(M.access (rc3 i g)).read (Elt F) f = up v⌝ ∗ ((M.access (rc3 i g)).loc (c : Thread nD τ) ↦[(M.access (rc3 i g)).set]{q} f)) : sProp 𝕄)
    iintro ⟨%f, %hf, H⟩
    rw [set3]
    iexists f
    isplitr
    · ipureintro; rw [← hf]; exact (up_down _).symm
    · iexact H
  · show (iprop(∃ f, ⌜(M.access (rc3 i g)).read (Elt F) f = up v⌝ ∗ ((M.access (rc3 i g)).loc (c : Thread nD τ) ↦[(M.access (rc3 i g)).set]{q} f)) : sProp 𝕄)
      ⊢ iprop(∃ f, ⌜(sl3 M i g).view.read (Elt F) f = v⌝ ∗ ((sl3 M i g).view.loc (c : Thread nD τ) ↦[(sl3 M i g).view.set]{q} f))
    iintro ⟨%f, %hf, H⟩
    rw [← set3]
    iexists f
    isplitr
    · ipureintro
      show down ((M.access (rc3 i g)).read (Elt F) f) = v
      rw [hf, down_up]
    · iexact H

/-- A slot at any contents, both ways. -/
theorem any_sl3 {c : Dev nD} (M : Memref sig .tc .vmem S3x256x512 .f32) (i : Fin 3) (g : Fin 2) :
    (iprop(∃ v : V F, owns (c : Thread nD τ) (sl3 M i g) fullShare v) : sProp 𝕄)
      = iprop(∃ v : (rc3 i g).shape.Idx → Elt F .f32, owns (c : Thread nD τ) (M.slice (rc3 i g) (fun _ => rfl)) fullShare v) := by
  refine BI.equiv_iff.mp ⟨?_, ?_⟩
  · show (iprop(∃ v : V F, owns (c : Thread nD τ) (sl3 M i g) fullShare v) : sProp 𝕄) ⊢ _
    iintro ⟨%v, H⟩
    iexists (up v)
    iapply (Entails.of_eq (owns_sl3 M i g fullShare v)) $$ H
  · show _ ⊢ (iprop(∃ v : V F, owns (c : Thread nD τ) (sl3 M i g) fullShare v) : sProp 𝕄)
    iintro ⟨%v, H⟩
    iexists (down v)
    iapply (Entails.of_eq (owns_sl3 M i g fullShare (down v)).symm)
    rw [up_down]
    iexact H

/-! ## The slots of a kind -/

/-- The four slots of a kind, at any contents. -/
def kindAny (c : Dev nD) (a : Fin 12) : sProp 𝕄 := bigSep Finset.univ fun t : Fin 2 × Fin 2 => iprop(∃ v : V F, owns (c : Thread nD τ) (mr (a, t)) fullShare v)
/-- The four slots of a kind at a share, at given contents. -/
def kindAt (c : Dev nD) (a : Fin 12) (q : PosShare TreeShare) (v : Fin 2 → Fin 2 → V F) : sProp 𝕄 :=
  bigSep Finset.univ fun t : Fin 2 × Fin 2 => owns (c : Thread nD τ) (mr (a, t)) q (v t.1 t.2)

theorem kindAt_any (c : Dev nD) (a : Fin 12) (v : Fin 2 → Fin 2 → V F) : kindAt c a fullShare v ⊢ kindAny c a := by
  unfold kindAt kindAny
  exact bigSep_mono fun t _ => some_of (fun v : V F => owns (c : Thread nD τ) (mr (a, t)) fullShare v) (v t.1 t.2)

theorem bigSep_two (Φ : Fin 2 → sProp 𝕄) : bigSep Finset.univ Φ = iprop(Φ 0 ∗ Φ 1) :=
  bigSep_univ_eq_bigSepL [0, 1] (by decide) (by decide) Φ
theorem bigSep_three (Φ : Fin 3 → sProp 𝕄) : bigSep Finset.univ Φ = iprop(Φ 0 ∗ Φ 1 ∗ Φ 2) :=
  bigSep_univ_eq_bigSepL [0, 1, 2] (by decide) (by decide) Φ

theorem any2 (c : Dev nD) (M : Memref sig .tc .vmem S256x512 .f32) :
    (iprop(∃ v, owns (c : Thread nD τ) M fullShare v) : sProp 𝕄) ⊢ bigSep Finset.univ fun g : Fin 2 => iprop(∃ v : V F, owns (c : Thread nD τ) (sl2 M g) fullShare v) :=
  split_any M rc2 (fun _ _ => rfl) rc2_disj rc2_cover
theorem any2' (c : Dev nD) (M : Memref sig .tc .vmem S256x512 .f32) :
    (bigSep Finset.univ fun g : Fin 2 => iprop(∃ v : V F, owns (c : Thread nD τ) (sl2 M g) fullShare v)) ⊢ (iprop(∃ v, owns (c : Thread nD τ) M fullShare v) : sProp 𝕄) :=
  join_any M rc2 (fun _ _ => rfl) rc2_disj rc2_cover
/-- One third of a three-fold buffer. -/
def third (c : Dev nD) (M : Memref sig .tc .vmem S3x256x512 .f32) (i : Fin 3) : sProp 𝕄 :=
  bigSep Finset.univ fun g : Fin 2 => iprop(∃ v : V F, owns (c : Thread nD τ) (sl3 M i g) fullShare v)
theorem thirds_eq (c : Dev nD) (M : Memref sig .tc .vmem S3x256x512 .f32) :
    (bigSep Finset.univ fun t : Fin 3 × Fin 2 => (iprop(∃ v : (rc3 t.1 t.2).shape.Idx → Elt F .f32, owns (c : Thread nD τ) (M.slice (rc3 t.1 t.2) (fun _ => rfl)) fullShare v) : sProp 𝕄))
      = iprop(third c M 0 ∗ third c M 1 ∗ third c M 2) := by
  rw [bigSep_congr fun t _ => (any_sl3 M t.1 t.2).symm, bigSep_univ_prod, bigSep_three]
  rfl
theorem any3 (c : Dev nD) (M : Memref sig .tc .vmem S3x256x512 .f32) :
    (iprop(∃ v, owns (c : Thread nD τ) M fullShare v) : sProp 𝕄) ⊢ iprop(third c M 0 ∗ third c M 1 ∗ third c M 2) := by
  rw [← thirds_eq]
  exact split_any M (fun t : Fin 3 × Fin 2 => rc3 t.1 t.2) (fun _ _ => rfl) rc3_disj rc3_cover
theorem any3' (c : Dev nD) (M : Memref sig .tc .vmem S3x256x512 .f32) :
    iprop(third c M 0 ∗ third c M 1 ∗ third c M 2) ⊢ (iprop(∃ v, owns (c : Thread nD τ) M fullShare v) : sProp 𝕄) := by
  rw [← thirds_eq]
  exact join_any M (fun t : Fin 3 × Fin 2 => rc3 t.1 t.2) (fun _ _ => rfl) rc3_disj rc3_cover

/-- A pair of three-fold buffers, one per ring, is the slots of its three kinds. -/
theorem pair3 (c : Dev nD) (M : Fin 2 → Memref sig .tc .vmem S3x256x512 .f32) (a0 a1 a2 : Fin 12)
    (h0 : ∀ r g, mr (a0, r, g) = sl3 (M r) 0 g) (h1 : ∀ r g, mr (a1, r, g) = sl3 (M r) 1 g) (h2 : ∀ r g, mr (a2, r, g) = sl3 (M r) 2 g) :
    iprop((∃ v, owns (c : Thread nD τ) (M 0) fullShare v) ∗ (∃ v, owns (c : Thread nD τ) (M 1) fullShare v))
      ⊣⊢ (iprop(kindAny (F := F) c a0 ∗ kindAny c a1 ∗ kindAny c a2) : sProp 𝕄) := by
  have hk (a : Fin 12) (i : Fin 3) (h : ∀ r g, mr (a, r, g) = sl3 (M r) i g) : (kindAny c a : sProp 𝕄) = iprop(third c (M 0) i ∗ third c (M 1) i) := by
    unfold kindAny third
    rw [bigSep_univ_prod, bigSep_two]
    simp only [h]
  rw [hk a0 0 h0, hk a1 1 h1, hk a2 2 h2]
  constructor
  · iintro ⟨H0, H1⟩
    ihave H0 := (any3 c (M 0)) $$ H0
    ihave H1 := (any3 c (M 1)) $$ H1
    icases H0 with ⟨A0, A1, A2⟩
    icases H1 with ⟨B0, B1, B2⟩
    isplitl [A0 B0]; · isplitl [A0] <;> iassumption
    isplitl [A1 B1]; · isplitl [A1] <;> iassumption
    isplitl [A2] <;> iassumption
  · iintro ⟨⟨A0, B0⟩, ⟨A1, B1⟩, A2, B2⟩
    isplitl [A0 A1 A2]
    · iapply (any3' c (M 0))
      isplitl [A0]; · iexact A0
      isplitl [A1] <;> iassumption
    · iapply (any3' c (M 1))
      isplitl [B0]; · iexact B0
      isplitl [B1] <;> iassumption

/-- The two own-product buffers are the slots of kind 1. -/
theorem pair2 (c : Dev nD) :
    iprop((∃ v, owns (c : Thread nD τ) (ownM 0) fullShare v) ∗ (∃ v, owns (c : Thread nD τ) (ownM 1) fullShare v)) ⊣⊢ (kindAny (F := F) c 1 : sProp 𝕄) := by
  have hk : (kindAny c 1 : sProp 𝕄) = iprop((bigSep Finset.univ fun g : Fin 2 => iprop(∃ v : V F, owns (c : Thread nD τ) (sl2 (ownM 0) g) fullShare v))
      ∗ bigSep Finset.univ fun g : Fin 2 => iprop(∃ v : V F, owns (c : Thread nD τ) (sl2 (ownM 1) g) fullShare v)) := by
    unfold kindAny
    rw [bigSep_univ_prod, bigSep_two]
    rfl
  rw [hk]
  exact ⟨BI.sep_mono (any2 c _) (any2 c _), BI.sep_mono (any2' c _) (any2' c _)⟩

/-- A block of 512 rows as the slots of a kind. -/
theorem block_split (c : Dev nD) (a : Fin 12) (M : Memref sig .tc .vmem S512x512 .f32) (h : ∀ r g, mr (a, r, g) = sl5 M r g) (q : PosShare TreeShare) (X : S512x512.Idx → Elt F .f32) :
    (owns (c : Thread nD τ) M q X : sProp 𝕄) ⊣⊢ kindAt c a q fun r g j => X ((rc5 r g).emb j) := by
  haveI (e : EltTy) : Nonempty (Elt F e) := elt_nonempty e
  have hk : (kindAt c a q (fun r g j => X ((rc5 r g).emb j)) : sProp 𝕄)
      = bigSep Finset.univ fun t : Fin 2 × Fin 2 => owns (c : Thread nD τ) (M.slice (rc5 t.1 t.2) (fun _ => rfl)) q fun j => X ((rc5 t.1 t.2).emb j) := by
    unfold kindAt
    exact bigSep_congr fun t _ => by obtain ⟨r, g⟩ := t; rw [h]; rfl
  rw [hk]
  exact ⟨owns_rects (c : Thread nD τ) M q (fun t : Fin 2 × Fin 2 => rc5 t.1 t.2) (fun _ _ => rfl) rc5_disj rc5_cover X,
    owns_of_rects (c : Thread nD τ) M q (fun t : Fin 2 × Fin 2 => rc5 t.1 t.2) (fun _ _ => rfl) rc5_disj rc5_cover X⟩

/-- The slots of a kind at a share are the slots at its two halves. -/
theorem kind_halves (c : Dev nD) (a : Fin 12) (q : PosShare TreeShare) (v : Fin 2 → Fin 2 → V F) :
    (kindAt c a q v : sProp 𝕄) ⊣⊢ iprop(kindAt c a q.left v ∗ kindAt c a q.right v) := by
  unfold kindAt
  rw [← bigSep_sep']
  exact ⟨bigSep_mono fun t _ => (owns_halves (Val := Elt F) (c : Thread nD τ) (mr (a, t)) q (v t.1 t.2)).1, bigSep_mono fun t _ => (show iprop(owns (c : Thread nD τ) (mr (a, t)) q.left (v t.1 t.2) ∗ owns (c : Thread nD τ) (mr (a, t)) q.right (v t.1 t.2)) ⊢ (owns (c : Thread nD τ) (mr (a, t)) q (v t.1 t.2) : sProp 𝕄) from (owns_halves (Val := Elt F) (c : Thread nD τ) (mr (a, t)) q (v t.1 t.2)).2)⟩

end Cert.KProof

end
-- ==== Proof.Body.lean ====
/-
# The body from its start to its end

The handshake on the barrier, which hands over the landing slots, then the parts one after another; what a device holds at
the start cut into slots, and the slots at the end put together again.
-/
module

public import proofs.«01_k».proof.Proof.Parts
public import proofs.«01_k».proof.Proof.Whole

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## Conjunctions over kinds -/

theorem bigSep_kinds (Φ : Slot → sProp 𝕄) :
    bigSep Finset.univ Φ = bigSepL [0, 1, 2, 3, 4, 5, 6, 7, 8, 9, 10, 11] fun a : Fin 12 => bigSep Finset.univ fun t : Fin 2 × Fin 2 => Φ (a, t) := by
  rw [bigSep_univ_prod]
  exact bigSep_univ_eq_bigSepL [0, 1, 2, 3, 4, 5, 6, 7, 8, 9, 10, 11] (by decide) (by decide) _
theorem bigSep_transfers (Φ : X → sProp 𝕄) :
    bigSep Finset.univ Φ = bigSepL [0, 1, 2, 3, 4, 5] fun k : Fin 6 => bigSep Finset.univ fun t : Fin 2 × Fin 2 => Φ (k, t) := by
  rw [bigSep_univ_prod]
  exact bigSep_univ_eq_bigSepL [0, 1, 2, 3, 4, 5] (by decide) (by decide) _
theorem bigSep_none : (bigSep Finset.univ fun _ : Fin 2 × Fin 2 => (iprop(emp) : sProp 𝕄)) = iprop(emp) := bigSep_emp_const _

theorem sep_none (P : sProp 𝕄) : iprop(P ∗ emp) = P := BI.equiv_iff.mp BI.sep_emp
theorem none_sep (P : sProp 𝕄) : iprop(emp ∗ P) = P := BI.equiv_iff.mp BI.emp_sep
theorem payload_bar (d : Bool) : (Rd m).payload (barCell c) 0 d = barPay d c := rfl
theorem amount_bar (d : Bool) : (Rd m).amount (barCell c) 0 d = 1 := rfl

/-! ## The landing slots -/

theorem land_kinds : (bigSep Finset.univ fun x : X => land (F := F) c x) = (iprop(kindAny c 3 ∗ kindAny c 4 ∗ kindAny c 5 ∗ kindAny c 9 ∗ kindAny c 10 ∗ kindAny c 11) : sProp 𝕄) := by
  rw [bigSep_transfers]; rfl

theorem toNxt_split (Φ : X → sProp 𝕄) :
    bigSep Finset.univ Φ = iprop(bigSep (Finset.univ.filter fun x : X => toNxt x = true) Φ ∗ bigSep (Finset.univ.filter fun x : X => toNxt x = false) Φ) := by
  rw [BI.bigSep_filter_split Finset.univ (fun x : X => toNxt x = true)]
  simp only [Bool.not_eq_true]
  rfl

/-- A device's own landing slots are what it hands its two neighbours. -/
theorem land_out : (bigSep Finset.univ fun x : X => land (F := F) c x) = (iprop(barPay true (prv c) ∗ barPay false (nxt c)) : sProp 𝕄) := by
  rw [toNxt_split]
  unfold barPay
  refine congrArg₂ _ (bigSep_congr fun x hx => ?_) (bigSep_congr fun x hx => ?_)
  · rw [tgt_of_toNxt, if_pos (Finset.mem_filter.mp hx).2, nxt_prv]
  · rw [tgt_of_toNxt, if_neg (by rw [(Finset.mem_filter.mp hx).2]; exact Bool.false_ne_true), prv_nxt]
/-- What the two neighbours hand over are the landing slots of all the device's transfers. -/
theorem land_in : (bigSep Finset.univ fun x : X => land (F := F) (tgt x c) x) = (iprop(barPay true c ∗ barPay false c) : sProp 𝕄) := by
  rw [toNxt_split]; rfl

/-! ## The start -/

/-- What a device holds for a transfer before it has its landing slot. -/
def tok (x : X) : sProp 𝕄 :=
  iprop(dutyTok ER (sendCell c x) 0 false ∗ dutyTok ER (recvCell (tgt x c) x) 0 false ∗ atPos ER (sendCell c x) 0 ∅ 0)
/-- The shares of the device's own rows its first two kinds of transfers take. -/
def lent (x : X) : sProp 𝕄 := if x.1.val < 2 then sendPay m x c else iprop(emp)

theorem pend_all : bigSepL SL (pend m c)
    = iprop((bigSep Finset.univ fun x : X => tok c x) ∗ (bigSep Finset.univ fun x : X => land (tgt x c) x) ∗ bigSep Finset.univ fun x : X => lent m c x) := by
  rw [← bigSep_univ_eq_bigSepL SL SL_univ SL_nodup, ← bigSep_sep', ← bigSep_sep']
  refine bigSep_congr fun x _ => BI.equiv_iff.mp ⟨?_, ?_⟩
  · show pend m c x ⊢ iprop(tok c x ∗ land (tgt x c) x ∗ lent m c x)
    unfold pend tok lent
    iintro ⟨H1, H2, H3, H4, H5⟩
    isplitl [H1 H2 H3]
    · isplitl [H1]; · iexact H1
      isplitl [H2] <;> iassumption
    isplitl [H4] <;> iassumption
  · show iprop(tok c x ∗ land (tgt x c) x ∗ lent m c x) ⊢ pend m c x
    unfold pend tok lent
    iintro ⟨⟨H1, H2, H3⟩, H4, H5⟩
    isplitl [H1]; · iexact H1
    isplitl [H2]; · iexact H2
    isplitl [H3]; · iexact H3
    isplitl [H4] <;> iassumption

theorem lent_kinds : (bigSep Finset.univ fun x : X => lent m c x) = iprop(kindAt c 0 fullShare.right.left (xs m c) ∗ kindAt c 0 fullShare.right.right (xs m c)) := by
  rw [bigSep_transfers, bigSepL_cons', bigSepL_cons']
  rw [show (bigSepL [2, 3, 4, 5] fun k : Fin 6 => bigSep Finset.univ fun t : Fin 2 × Fin 2 => lent m c (k, t)) = (iprop(emp) : sProp 𝕄) from ?_]
  · rw [sep_none]; rfl
  · show iprop((bigSep Finset.univ fun t : Fin 2 × Fin 2 => iprop(emp)) ∗ (bigSep Finset.univ fun t : Fin 2 × Fin 2 => iprop(emp))
        ∗ (bigSep Finset.univ fun t : Fin 2 × Fin 2 => iprop(emp)) ∗ (bigSep Finset.univ fun t : Fin 2 × Fin 2 => iprop(emp))) = (iprop(emp) : sProp 𝕄)
    rw [bigSep_none, sep_none, sep_none, sep_none]

theorem slots_S0 : slots c (S0 m c).mem
    = iprop(kindAt c 0 fullShare.left (xs m c) ∗ kindAny c 1 ∗ kindAny c 2 ∗ kindAny c 6 ∗ kindAny c 7 ∗ kindAny c 8) := by
  unfold slots
  rw [bigSep_kinds]
  show iprop(kindAt c 0 fullShare.left (xs m c) ∗ kindAny c 1 ∗ kindAny c 2
      ∗ (bigSep Finset.univ fun t : Fin 2 × Fin 2 => iprop(emp)) ∗ (bigSep Finset.univ fun t : Fin 2 × Fin 2 => iprop(emp)) ∗ (bigSep Finset.univ fun t : Fin 2 × Fin 2 => iprop(emp))
      ∗ kindAny c 6 ∗ kindAny c 7 ∗ kindAny c 8
      ∗ (bigSep Finset.univ fun t : Fin 2 × Fin 2 => iprop(emp)) ∗ (bigSep Finset.univ fun t : Fin 2 × Fin 2 => iprop(emp)) ∗ (bigSep Finset.univ fun t : Fin 2 × Fin 2 => iprop(emp)))
    = (_ : sProp 𝕄)
  rw [bigSep_none, sep_none, sep_none, sep_none, none_sep, none_sep, none_sep]

/-- What a device holds before the barrier, but for the barrier's own and the landing slots. -/
def rest : sProp 𝕄 :=
  iprop(slots c (S0 m c).mem ∗ owns (c : Thread nD τ) w1M fullShare (w1stg m c) ∗ owns (c : Thread nD τ) w2M fullShare (w2stg m c)
    ∗ (bigSep Finset.univ fun x : X => tok c x) ∗ (bigSep Finset.univ fun x : X => lent m c x) ∗ bigSep Finset.univ fun x : X => waitTok c x)

theorem ST_S0 : iprop(records m K ∗ levAts L lv ∗ rest m c ∗ (∃ W, owes (c : Thread nD τ) (owe c SL) W) ∗ bigSep Finset.univ fun x : X => land (tgt x c) x)
    ⊢ ST m K c (S0 m c) := by
  unfold ST
  rw [show (S0 m c).todo = SL from rfl, show (S0 m c).wait = WL from rfl, show (S0 m c).sent = [] from rfl, show (S0 m c).got = [] from rfl, show (S0 m c).back = [] from rfl,
    pend_all, ← bigSep_univ_eq_bigSepL WL WL_univ WL_nodup]
  unfold rest
  iintro ⟨HR, HL, ⟨H1, H2, H3, H4, H5, H6⟩, HO, Hl⟩
  isplitl [HR]; · iexact HR
  isplitl [HL]; · iexact HL
  isplitl [H1]; · iexact H1
  isplitl [H2]; · iexact H2
  isplitl [H3]; · iexact H3
  isplitl [HO]; · iexact HO
  isplitl [H4 H5 Hl]
  · isplitl [H4]; · iexact H4
    isplitl [Hl] <;> iassumption
  isplitl [H6]; · iexact H6
  isplitr; · iempintro
  isplitr; · iempintro
  iempintro

/-- What a device owes at the launch: every transfer, a signal to the next device's barrier and one to the previous one's. -/
def O₀ : CellTallies nD τ sig Unit := owe c SL + tallyAt (barCell (nxt c)) () 1 + tallyAt (barCell (prv c)) () 1

/-- What a device holds before the barrier. -/
def front : sProp 𝕄 :=
  iprop(records m K ∗ levAts L lv ∗ rest m c ∗ (∃ W, owes (c : Thread nD τ) (O₀ c) W) ∗ (bigSep Finset.univ fun x : X => land c x)
    ∗ atPos ER (barCell c) 0 ∅ 0 ∗ cred (tallyAt (barCell c) () 2) ∗ dutyTok ER (barCell (prv c)) 0 true ∗ dutyTok ER (barCell (nxt c)) 0 false)

theorem SL_above : ∀ y ∈ SL, 1 < lx y := fun y _ => by unfold lx; omega

set_option maxHeartbeats 800000 in
/-- The handshake and the first transfer. -/
theorem part1 {Kt} (h : ∀ v5 v7 v22, iprop(ST m K c (S1 m c) ∗ semVal (barCell c) 0) ⊢ Kt ⟨c, v5, v7, v22⟩) :
    front m K c ⊢ wp frame (wpE (defs₀ (F := F)) 𝒱₀ (c : Thread nD τ) none) Set.univ (on k0_part1) Kt := by
  dsimp only [on]
  rw [k0_part1_eq_skeleton]; unfold k0_part1_skel
  simp only [semSignalWord, semWaitWord, Prog.lift, Prog.bind_op, Prog.bind_ret, Prog.pure_eq_ret, wp_deviceId]
  unfold front O₀
  rw [land_out]
  iintro ⟨#HR, #HL, Hrest, ⟨%W, HO⟩, ⟨Hlp, Hln⟩, Hat, Hcr, Htp, Htn⟩
  ihave HRc := (rec_bar m K c) $$ HR
  icases HRc with ⟨#HIc, #Hrc⟩
  ihave HRp := (rec_bar m K (prv c)) $$ HR
  icases HRp with ⟨#HIp, #Hrp⟩
  ihave HRn := (rec_bar m K (nxt c)) $$ HR
  icases HRn with ⟨#HIn, #Hrn⟩
  simp only [show (⟨k0_dev1 c, k0_dev1_lt c⟩ : Dev nD) = prv c from Fin.ext (k0_dev1_eq c), show (⟨k0_dev2 c, k0_dev2_lt c⟩ : Dev nD) = nxt c from Fin.ext (k0_dev2_eq c)]
  iapply (Rounds.wp_signal 𝒱₀ ER (Rd m) (c : Thread nD τ) none (dst := (prv c : Thread nD τ)) (κ := K (prv c, none))
      (d := true) (by rw [duties_bar]; exact Finset.mem_univ _) ((amount_bar m (prv c) true).trans (by decide)) () (owe c SL + tallyAt (barCell (nxt c)) () 1) rfl)
    $$ [HO Htp Hlp]
  · isplitr; · iexact HIp
    isplitl [HO]; · iexact HO
    isplitl [Htp]; · iexact Htp
    isplitl [Hlp]; · rw [payload_bar]; iexact Hlp
    iexact Hrp
  iintro HO
  iapply (Rounds.wp_signal 𝒱₀ ER (Rd m) (c : Thread nD τ) none (dst := (nxt c : Thread nD τ)) (κ := K (nxt c, none))
      (d := false) (by rw [duties_bar]; exact Finset.mem_univ _) ((amount_bar m (nxt c) false).trans (by decide)) () (owe c SL) rfl)
    $$ [HO Htn Hln]
  · isplitr; · iexact HIn
    isplitl [HO]; · iexact HO
    isplitl [Htn]; · iexact Htn
    isplitl [Hln]; · rw [payload_bar]; iexact Hln
    iexact Hrn
  iintro HO
  iapply (Rounds.wp_wait_rest_token 𝒱₀ ER (Rd m) (c : Thread nD τ) none (κ := K (c, none))
      (wpE_semWait_eq 𝒱₀ (c : Thread nD τ) none Set.univ) (Set.mem_univ _) () (O := owe c SL) (W := W) (R := 0) (m := 0) (T := ∅)
      (by rw [expect_bar]; decide)) $$ [Hcr HO Hat]
  · isplitr; · iexact HIc
    isplitl [Hcr]; · iexact Hcr
    isplitl [HO]; · iexact HO
    isplitr; · iapply (mayWait_owe c (.reg barS) 1 rfl SL SL_above); iexact HL
    iexact Hat
  iintro ⟨HO, Hat, -, Hpay⟩
  ihave Hp := (Entails.of_eq (rest_bar m c)) $$ Hpay
  icases Hp with ⟨Hpf, Hpt⟩
  imod (Rounds.cell_close ER (Rd m) (Set.mem_univ (K (c, none))) (fun h => h) (R := 0 + 1) (duties_later m (barCell c))) $$ [Hat] with Hz
  · isplitr; · iexact HIc
    iexact Hat
  iapply (start0 m K (0,0,0) (by decide) rfl (Fin.ext (k0_dev3_eq c)) rfl rfl rfl rfl (s := S0 m c))
  isplitl [Hrest HO Hpf Hpt]
  · iapply (ST_S0 m K c)
    isplitr; · iexact HR
    isplitr; · iexact HL
    isplitl [Hrest]; · iexact Hrest
    isplitl [HO]; · iexists _; iexact HO
    rw [land_in]
    isplitl [Hpt] <;> iassumption
  iintro H
  rw [wp_ret]
  imodintro
  iapply (h _ _ _)
  isplitl [H]; · iexact H
  iexact Hz

end Cert.KProof

end
-- ==== Proof.Finish.lean ====
/-
# The whole body

The parts one after another, and what a device holds after the last: its staging buffers, its scratch buffers and every
semaphore closed.
-/
module

public import proofs.«01_k».proof.Proof.Body

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-! ## The parts in order -/

theorem seq {α β : Type} {P : sProp 𝕄} {p : Prog (TpuEff nD τ sig (Elt F) Λ₀ .tc) α} {k : α → Prog (TpuEff nD τ sig (Elt F) Λ₀ .tc) β} {Q : β → sProp 𝕄}
    (h : P ⊢ wp frame (wpE (defs₀ (F := F)) 𝒱₀ (c : Thread nD τ) none) Set.univ p fun a => wp frame (wpE (defs₀ (F := F)) 𝒱₀ (c : Thread nD τ) none) Set.univ (k a) Q) :
    P ⊢ wp frame (wpE (defs₀ (F := F)) 𝒱₀ (c : Thread nD τ) none) Set.univ (p >>= k) Q := by
  rw [wp_bind]; exact h

/-- A resource kept aside. -/
theorem keep {α : Type} {P B Q : sProp 𝕄} {p : Prog (TpuEff nD τ sig (Elt F) Λ₀ .tc) α}
    (h : P ⊢ wp frame (wpE (defs₀ (F := F)) 𝒱₀ (c : Thread nD τ) none) Set.univ p fun _ => Q) :
    iprop(P ∗ B) ⊢ wp frame (wpE (defs₀ (F := F)) 𝒱₀ (c : Thread nD τ) none) Set.univ p fun _ => iprop(Q ∗ B) := by
  iintro ⟨H, HB⟩
  iapply (wp_frame_r frame (wpE (defs₀ (F := F)) 𝒱₀ (c : Thread nD τ) none) (p := p) (Q := fun _ => Q) (R := B))
  isplitl [H]
  · iapply h $$ H
  · iexact HB

set_option maxRecDepth 65536 in
/-- The kernel's body leads from the start to the last state. -/
theorem run_body : front m K c ⊢ wp frame (wpE (defs₀ (F := F)) 𝒱₀ (c : Thread nD τ) none) Set.univ (on cc0_body)
    (fun _ => iprop(ST m K c (S37 m c) ∗ semVal (barCell c) 0)) := by
  dsimp only [on]
  rw [cc0_body_eq_skeleton]; unfold cc0_body_skel
  refine seq c (part1 m K c fun v5 v7 v22 => ?_)
  refine keep c ?_
  refine seq c (part2 m K c _ _ _ ?_)
  refine seq c (part3 m K c _ _ ?_)
  refine seq c (part4 m K c _ ?_)
  refine seq c (part5 m K c _ _ ?_)
  refine seq c (part6 m K c _ _ ?_)
  refine seq c (part7 m K c ?_)
  refine seq c (part8 m K c _ _ ?_)
  refine seq c (part9 m K c _ ?_)
  refine seq c (part10 m K c _ fun _ => ?_)
  refine seq c (part11 m K c _ _ _ fun _ => ?_)
  refine seq c (part12 m K c _ _ _ ?_)
  refine seq c (part13 m K c _ ?_)
  refine seq c (part14 m K c _ ?_)
  refine seq c (part15 m K c _ fun _ => ?_)
  refine seq c (part16 m K c _ _ ?_)
  refine seq c (part17 m K c _ ?_)
  refine seq c (part18 m K c _ fun _ => ?_)
  refine seq c (part19 m K c _ _ _ ?_)
  refine seq c (part20 m K c _ _ ?_)
  refine seq c (part21 m K c _ ?_)
  refine seq c (part22 m K c _ ?_)
  refine seq c (part23 m K c _ ?_)
  refine seq c (part24 m K c _ ?_)
  refine seq c (part25 m K c _ ?_)
  refine seq c (part26 m K c _ _ ?_)
  refine seq c (part27 m K c _ _ ?_)
  refine seq c (part28 m K c _ _ ?_)
  refine seq c (part29 m K c _ _ ?_)
  refine seq c (part30 m K c ?_)
  refine seq c (part31 m K c ?_)
  refine seq c (part32 m K c ?_)
  refine seq c (part33 m K c ?_)
  refine seq c (part34 m K c ?_)
  refine seq c (part35 m K c ?_)
  refine seq c (part36 m K c ?_)
  simp only [Prog.lift, Prog.bind_op, Prog.bind_ret, Prog.pure_eq_ret]
  refine step (ret m K (s := R m c 23) (4,1,1) rfl rfl (credit (6,1,1)) rfl) ?_
  exact last (BI.Entails.refl _)

/-! ## The last state -/

/-- Where a row of the result lies inside its block of 128. -/
def within (i : S512x512.Idx) : S128x512.Idx := fun a => match a with
  | ⟨0, _⟩ => ⟨(i 0).val % 128, Nat.mod_lt _ (by decide)⟩
  | ⟨1, _⟩ => ⟨(i 1).val, (i 1).isLt⟩
/-- Device `c`'s result. -/
def outAt : S512x512.Idx → Elt F .f32 := fun i =>
  res m c ⟨(i 0).val / 256, by have : (i 0).val < 512 := (i 0).isLt; omega⟩ ⟨(i 0).val % 256 / 128, by omega⟩ (within i)

theorem emb5_row (r g : Fin 2) (j : S128x512.Idx) : ((rc5 r g).emb j 0).val = 256 * r.val + 128 * g.val + (j 0).val := by
  show 256 * r.val + 128 * g.val + 1 * (j 0).val = _; omega
theorem emb5_col (r g : Fin 2) (j : S128x512.Idx) : ((rc5 r g).emb j 1).val = (j 1).val := by
  show 0 + 1 * (j 1).val = _; omega
theorem outAt_emb (r g : Fin 2) (j : S128x512.Idx) : outAt m c ((rc5 r g).emb j) = res m c r g j := by
  have hr := r.isLt
  have hg := g.isLt
  have hj : (j 0).val < 128 := (j 0).isLt
  have e := emb5_row r g j
  unfold outAt
  rw [show (⟨((rc5 r g).emb j 0).val / 256, _⟩ : Fin 2) = r from Fin.ext (by show ((rc5 r g).emb j 0).val / 256 = r.val; omega),
    show (⟨((rc5 r g).emb j 0).val % 256 / 128, _⟩ : Fin 2) = g from Fin.ext (by show ((rc5 r g).emb j 0).val % 256 / 128 = g.val; omega)]
  refine congrArg _ (funext fun a => ?_)
  fin_cases a
  · exact Fin.ext (by show ((rc5 r g).emb j 0).val % 128 = (j 0).val; omega)
  · exact Fin.ext (emb5_col r g j)

/-- The slots at the end. -/
def finMem (sl : Slot) : St F := match sl.1 with
  | 0 => .half (xs m c sl.2.1 sl.2.2) | 1 => .full (fc m c (xs m c sl.2.1 sl.2.2)) | 2 => .full (res m c sl.2.1 sl.2.2)
  | 3 => .half (rv m (0, sl.2) c) | 4 => .full (rv m (1, sl.2) c) | 5 => .full (rv m (2, sl.2) c)
  | 6 => .gone | 7 => .gone | 8 => .gone
  | 9 => .full (rv m (3, sl.2) c) | 10 => .full (rv m (4, sl.2) c) | 11 => .full (rv m (5, sl.2) c)

theorem mem_R : (S29' m c).mem = finMem m c := by
  funext sl
  obtain ⟨a, r, g⟩ := sl
  fin_cases a <;> fin_cases r <;> fin_cases g <;> rfl

theorem slots_R : slots c (S37 m c).mem
    = iprop(kindAt c 0 fullShare.left (xs m c) ∗ kindAt c 1 fullShare (fun r g => fc m c (xs m c r g)) ∗ kindAt c 2 fullShare (res m c)
        ∗ kindAt c 3 fullShare.left (fun r g => rv m (0, r, g) c) ∗ kindAt c 4 fullShare (fun r g => rv m (1, r, g) c) ∗ kindAt c 5 fullShare (fun r g => rv m (2, r, g) c)
        ∗ kindAt c 9 fullShare (fun r g => rv m (3, r, g) c) ∗ kindAt c 10 fullShare (fun r g => rv m (4, r, g) c) ∗ kindAt c 11 fullShare (fun r g => rv m (5, r, g) c)) := by
  rw [show (S37 m c).mem = finMem m c from mem_R m c]
  unfold slots
  rw [bigSep_kinds]
  show iprop(kindAt c 0 fullShare.left (xs m c) ∗ kindAt c 1 fullShare (fun r g => fc m c (xs m c r g)) ∗ kindAt c 2 fullShare (res m c)
      ∗ kindAt c 3 fullShare.left (fun r g => rv m (0, r, g) c) ∗ kindAt c 4 fullShare (fun r g => rv m (1, r, g) c) ∗ kindAt c 5 fullShare (fun r g => rv m (2, r, g) c)
      ∗ (bigSep Finset.univ fun t : Fin 2 × Fin 2 => iprop(emp)) ∗ (bigSep Finset.univ fun t : Fin 2 × Fin 2 => iprop(emp)) ∗ (bigSep Finset.univ fun t : Fin 2 × Fin 2 => iprop(emp))
      ∗ kindAt c 9 fullShare (fun r g => rv m (3, r, g) c) ∗ kindAt c 10 fullShare (fun r g => rv m (4, r, g) c) ∗ kindAt c 11 fullShare (fun r g => rv m (5, r, g) c)) = _
  rw [bigSep_none, none_sep, none_sep, none_sep]

theorem back_all : bigSepL SL.reverse (backRes m c)
    = iprop((bigSep Finset.univ fun x : X => semVal (sendCell c x) 0) ∗ bigSep Finset.univ fun x : X => sendPay m x c) := by
  rw [← bigSep_univ_eq_bigSepL SL.reverse (by decide) (by decide), ← bigSep_sep']; rfl
theorem got_all : (bigSepL WL.reverse (gotRes c) : sProp 𝕄) = bigSep Finset.univ fun x : X => semVal (recvCell c x) 0 := by
  rw [← bigSep_univ_eq_bigSepL WL.reverse (by decide) (by decide)]; rfl
theorem sendPay_kinds : (bigSep Finset.univ fun x : X => sendPay m x c)
    = iprop(kindAt c 0 fullShare.right.left (xs m c) ∗ kindAt c 0 fullShare.right.right (xs m c) ∗ kindAt c 3 fullShare.right (fun r g => rv m (0, r, g) c)
        ∗ kindAt c 7 fullShare (early m c) ∗ kindAt c 6 fullShare (comb m c) ∗ kindAt c 8 fullShare (fun r g => sv m (5, r, g) c)) := by
  rw [bigSep_transfers]; rfl

/-- The scratch buffers, each at some contents. -/
def scr : sProp 𝕄 := iprop(kindAny c 1 ∗ (kindAny c 3 ∗ kindAny c 4 ∗ kindAny c 5) ∗ (kindAny c 6 ∗ kindAny c 7 ∗ kindAny c 8) ∗ (kindAny c 9 ∗ kindAny c 10 ∗ kindAny c 11))

/-- What a device holds at the end. -/
def back : sProp 𝕄 :=
  iprop((∃ W, owes (c : Thread nD τ) 0 W) ∗ owns (c : Thread nD τ) xM fullShare (xstg m c) ∗ owns (c : Thread nD τ) w1M fullShare (w1stg m c) ∗ owns (c : Thread nD τ) w2M fullShare (w2stg m c)
    ∗ owns (c : Thread nD τ) oM fullShare (outAt m c) ∗ scr c
    ∗ (bigSep Finset.univ fun x : X => semVal (sendCell c x) 0) ∗ (bigSep Finset.univ fun x : X => semVal (recvCell c x) 0) ∗ semVal (barCell c) 0)

theorem x_split (q : PosShare TreeShare) : (owns (c : Thread nD τ) xM q (xstg m c) : sProp 𝕄) ⊣⊢ kindAt c 0 q (xs m c) :=
  block_split c 0 xM (fun _ _ => rfl) q (xstg m c)
theorem out_join : kindAt c 2 fullShare (res m c) ⊢ (owns (c : Thread nD τ) oM fullShare (outAt m c) : sProp 𝕄) := by
  refine BIBase.Entails.trans (Entails.of_eq ?_) (block_split c 2 oM (fun _ _ => rfl) fullShare (outAt m c)).2
  refine congrArg (kindAt c 2 fullShare) (funext fun r => funext fun g => funext fun j => ?_)
  exact (outAt_emb m c r g j).symm

theorem finish : iprop(ST m K c (S37 m c) ∗ semVal (barCell c) 0) ⊢ back m c := by
  unfold ST back scr
  rw [slots_R, show (S37 m c).todo = [] from rfl, show (S37 m c).back = SL.reverse from rfl, show (S37 m c).got = WL.reverse from rfl, back_all, got_all, sendPay_kinds]
  iintro ⟨⟨-, -, ⟨X0, A1, A2, A3, A4, A5, A9, A10, A11⟩, Hw1, Hw2, HO, -, -, -, Hg, Hs, ⟨X1, X2, B3, B7, B6, B8⟩⟩, Hz⟩
  isplitl [HO]; · iexact HO
  isplitl [X0 X1 X2]
  · iapply (x_split m c fullShare).2
    iapply (kind_halves c 0 fullShare (xs m c)).2
    isplitl [X0]; · iexact X0
    iapply (kind_halves c 0 fullShare.right (xs m c)).2
    isplitl [X1] <;> iassumption
  isplitl [Hw1]; · iexact Hw1
  isplitl [Hw2]; · iexact Hw2
  isplitl [A2]; · iapply (out_join m c) $$ A2
  isplitl [A1 A3 A4 A5 B3 B6 B7 B8 A9 A10 A11]
  · isplitl [A1]; · iapply (kindAt_any c 1 _) $$ A1
    isplitl [A3 B3 A4 A5]
    · isplitl [A3 B3]
      · iapply (kindAt_any c 3 (fun r g => rv m (0, r, g) c))
        iapply (kind_halves c 3 fullShare (fun r g => rv m (0, r, g) c)).2
        isplitl [A3] <;> iassumption
      isplitl [A4]; · iapply (kindAt_any c 4 _) $$ A4
      iapply (kindAt_any c 5 _) $$ A5
    isplitl [B6 B7 B8]
    · isplitl [B6]; · iapply (kindAt_any c 6 _) $$ B6
      isplitl [B7]; · iapply (kindAt_any c 7 _) $$ B7
      iapply (kindAt_any c 8 _) $$ B8
    isplitl [A9]; · iapply (kindAt_any c 9 _) $$ A9
    isplitl [A10]; · iapply (kindAt_any c 10 _) $$ A10
    iapply (kindAt_any c 11 _) $$ A11
  isplitl [Hs]; · iexact Hs
  isplitl [Hg] <;> iassumption

/-- The scratch buffers as the launch holds them. -/
theorem scr_eq : (Pipeline.scopedRest cfg0.spec c : sProp 𝕄) ⊣⊢ scr c := by
  have e (b : Ref sig .tc) : (iprop(∃ f : Buf (Elt F) ((c : Thread nD τ).loc b), ((c : Thread nD τ).loc b) ↦{fullShare} f) : sProp 𝕄)
      = iprop(∃ v, owns (c : Thread nD τ) (Memref.whole b) fullShare v) :=
    congrArg _ (funext fun f => (owns_whole (c : Thread nD τ) b fullShare f).symm)
  rw [show cfg0.spec = spec0 from rfl, scopedRest0_eq]
  simp only [e]
  unfold scr
  have hx := pair3 (F := F) c xgM 3 4 5 (fun _ _ => rfl) (fun _ _ => rfl) (fun _ _ => rfl)
  have hp := pair3 (F := F) c pM 6 7 8 (fun _ _ => rfl) (fun _ _ => rfl) (fun _ _ => rfl)
  have hr := pair3 (F := F) c rinM 9 10 11 (fun _ _ => rfl) (fun _ _ => rfl) (fun _ _ => rfl)
  have ho := pair2 (F := F) c
  constructor
  · iintro ⟨H0, H1, H2, H3, H4, H5, H6, H7⟩
    isplitl [H3 H7]
    · iapply ho.1
      isplitl [H3]; · iexact H3
      iexact H7
    isplitl [H0 H4]
    · iapply hx.1
      isplitl [H0]; · iexact H0
      iexact H4
    isplitl [H1 H5]
    · iapply hp.1
      isplitl [H1]; · iexact H1
      iexact H5
    iapply hr.1
    isplitl [H2]; · iexact H2
    iexact H6
  · iintro ⟨Ho, Hx, Hp, Hr⟩
    ihave Ho := ho.2 $$ Ho
    ihave Hx := hx.2 $$ Hx
    ihave Hp := hp.2 $$ Hp
    ihave Hr := hr.2 $$ Hr
    icases Ho with ⟨H3, H7⟩
    icases Hx with ⟨H0, H4⟩
    icases Hp with ⟨H1, H5⟩
    icases Hr with ⟨H2, H6⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

end Cert.KProof

end
-- ==== Proof.Launch.lean ====
/-
# The launch

The kernel's body as the obligation of its one grid point, and the launch of all four devices: the cells of every semaphore
made at once, the duty tokens dealt to the devices that pay them, the credits to the devices that wait.
-/
module

public import proofs.«01_k».proof.Proof.Finish
public import proofs.«01_k».proof.Proof.Gen.KernelIdeal.Points
public import Idealize.ShloMosaic.Lib.Pipeline.Launch
public import Idealize.ShloMosaic.Lib.Pipeline.CollectiveSegs
public import Idealize.ShloMosaic.Lib.Pipeline.Kit
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from -/

/-- The positions and tokens of device `c`: its cells' rounds, the tokens of the duties it pays. -/
def linear (c : Dev nD) : sProp 𝕄 :=
  iprop(atPos ER (barCell c) 0 ∅ 0 ∗ (bigSep Finset.univ fun x : X => tok c x) ∗ (bigSep Finset.univ fun x : X => atPos ER (recvCell c x) 0 ∅ 0)
    ∗ dutyTok ER (barCell (prv c)) 0 true ∗ dutyTok ER (barCell (nxt c)) 0 false)
def G' (c : Dev nD) : sProp 𝕄 := iprop(∃ K, records m K ∗ linear c)

/-- What device `c`'s body starts from, besides its buffers. -/
def start (c : Dev nD) : sProp 𝕄 :=
  iprop(G' m c ∗ cred (tallyAt (barCell c) () 2) ∗ (bigSep Finset.univ fun x : X => cred (tallyAt (recvCell c x) () N)) ∗ levAts L lv)

def Φ₀ (c : Dev nD) : sProp 𝕄 := iprop(start m c ∗ Pipeline.scopedRest cfg0.spec c)
/-- After it: every semaphore of the kernel back at zero. -/
def Φ₁ (c : Dev nD) : sProp 𝕄 :=
  iprop(Pipeline.scopedRest cfg0.spec c ∗ (bigSep Finset.univ fun x : X => semVal (sendCell c x) 0) ∗ (bigSep Finset.univ fun x : X => semVal (recvCell c x) 0) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => w1stg m c
    | ⟨2, _⟩ => w2stg m c
    | ⟨3, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body -/

def bodyPre (c : Dev nD) : sProp 𝕄 :=
  iprop(Φ₀ m c ∗ (dats m 0 c).owesAt () (t0_0 : Fin cfg0.N).castSucc
    ∗ (∃ d, owns (c : Thread nD τ) xM fullShare ((dats m 0 c).before (0 : Fin 4) t0_0 d))
    ∗ (∃ d, owns (c : Thread nD τ) w1M fullShare ((dats m 0 c).before (1 : Fin 4) t0_0 d))
    ∗ (∃ d, owns (c : Thread nD τ) w2M fullShare ((dats m 0 c).before (2 : Fin 4) t0_0 d))
    ∗ (∃ d, owns (c : Thread nD τ) oM fullShare ((dats m 0 c).before (3 : Fin 4) t0_0 d)))
def bodyPost (c : Dev nD) : sProp 𝕄 :=
  iprop(Φ₁ c ∗ (dats m 0 c).owesAt () (t0_0 : Fin cfg0.N).succ ∗ owns (c : Thread nD τ) xM fullShare (xstg m c)
    ∗ owns (c : Thread nD τ) w1M fullShare (w1stg m c) ∗ owns (c : Thread nD τ) w2M fullShare (w2stg m c) ∗ owns (c : Thread nD τ) oM fullShare (outAt m c))

theorem before_x (c : Dev nD) (d) : (dats m 0 c).before (0 : Fin 4) t0_0 d = xstg m c := by
  unfold Dat.before; rw [if_pos (fetch0_0 t0_0)]; rfl
theorem before_w1 (c : Dev nD) (d) : (dats m 0 c).before (1 : Fin 4) t0_0 d = w1stg m c := by
  unfold Dat.before; rw [if_pos (fetch0_1 t0_0)]; rfl
theorem before_w2 (c : Dev nD) (d) : (dats m 0 c).before (2 : Fin 4) t0_0 d = w2stg m c := by
  unfold Dat.before; rw [if_pos (fetch0_2 t0_0)]; rfl

/-- The result's staging buffer, at any contents, is its slots at any contents. -/
theorem out_any (c : Dev nD) (f : oM.view.ty.Contents (Elt F)) : (owns (c : Thread nD τ) oM fullShare f : sProp 𝕄) ⊢ kindAny c 2 :=
  BIBase.Entails.trans (block_split c 2 oM (fun _ _ => rfl) fullShare f).1 (kindAt_any c 2 _)

/-- The device's rows: one half kept, a quarter lent to each of the first two kinds of transfers. -/
theorem x_lent (c : Dev nD) : (owns (c : Thread nD τ) xM fullShare (xstg m c) : sProp 𝕄)
    ⊢ iprop(kindAt c 0 fullShare.left (xs m c) ∗ kindAt c 0 fullShare.right.left (xs m c) ∗ kindAt c 0 fullShare.right.right (xs m c)) := by
  refine BIBase.Entails.trans (x_split m c fullShare).1 (BIBase.Entails.trans (kind_halves c 0 fullShare (xs m c)).1 ?_)
  exact BI.sep_mono (BI.Entails.refl _) (kind_halves c 0 fullShare.right (xs m c)).1

theorem front_intro (c : Dev nD) : bodyPre m c ⊢ iprop(∃ K, front m K c) := by
  unfold bodyPre Φ₀ start G' linear Dat.owesAt Pipeline.owesWithin
  iintro ⟨⟨⟨⟨%K, #HR, Hat, Htok, Hrat, Htp, Htn⟩, Hcb, Hcr, HL⟩, Hscr⟩, ⟨%W, %hW, HO⟩, ⟨%d0, Hx⟩, ⟨%d1, Hw1⟩, ⟨%d2, Hw2⟩, ⟨%d3, Ho⟩⟩
  rw [before_x, before_w1, before_w2]
  ihave Hs := (scr_eq c).1 $$ Hscr
  ihave Hk := (x_lent m c) $$ Hx
  ihave Hok := (out_any c _) $$ Ho
  unfold scr
  icases Hs with ⟨Hs1, ⟨Hs3, Hs4, Hs5⟩, ⟨Hs6, Hs7, Hs8⟩, Hs9, Hs10, Hs11⟩
  icases Hk with ⟨Hk1, Hk2, Hk3⟩
  iexists K
  unfold front rest
  rw [slots_S0, lent_kinds, land_kinds]
  isplitr; · iexact HR
  isplitl [HL]; · iexact HL
  isplitl [Hk1 Hs1 Hok Hs6 Hs7 Hs8 Hw1 Hw2 Htok Hk2 Hk3 Hrat Hcr]
  · isplitl [Hk1 Hs1 Hok Hs6 Hs7 Hs8]
    · isplitl [Hk1]; · iexact Hk1
      isplitl [Hs1]; · iexact Hs1
      isplitl [Hok]; · iexact Hok
      isplitl [Hs6]; · iexact Hs6
      isplitl [Hs7] <;> iassumption
    isplitl [Hw1]; · iexact Hw1
    isplitl [Hw2]; · iexact Hw2
    isplitl [Htok]; · iexact Htok
    isplitl [Hk2 Hk3]
    · isplitl [Hk2] <;> iassumption
    · unfold waitTok
      rw [bigSep_sep']
      isplitl [Hrat] <;> iassumption
  isplitl [HO]; · iexists W; iexact HO
  isplitl [Hs3 Hs4 Hs5 Hs9 Hs10 Hs11]
  · isplitl [Hs3]; · iexact Hs3
    isplitl [Hs4]; · iexact Hs4
    isplitl [Hs5]; · iexact Hs5
    isplitl [Hs9]; · iexact Hs9
    isplitl [Hs10] <;> iassumption
  isplitl [Hat]; · iexact Hat
  isplitl [Hcb]; · iexact Hcb
  isplitl [Htp] <;> iassumption

theorem back_elim (c : Dev nD) : back m c ⊢ bodyPost m c := by
  unfold back bodyPost Φ₁ Dat.owesAt Pipeline.owesWithin
  iintro ⟨⟨%W, HO⟩, Hx, Hw1, Hw2, Ho, Hs, Hsend, Hrecv, Hbar⟩
  ihave Hscr := (scr_eq c).2 $$ Hs
  isplitl [Hscr Hsend Hrecv Hbar]
  · isplitl [Hscr]; · iexact Hscr
    isplitl [Hsend]; · iexact Hsend
    isplitl [Hrecv] <;> iassumption
  isplitl [HO]
  · iexists W; isplitr; · (ipureintro; exact fun _ _ => Or.inl trivial)
    iexact HO
  isplitl [Hx]; · iexact Hx
  isplitl [Hw1]; · iexact Hw1
  isplitl [Hw2] <;> iassumption

theorem sound_body (c : Dev nD) : bodyPre m c
    ⊢ wp frame (wpE (defs₀ (F := F)) 𝒱₀ (c : Thread nD τ) none) Set.univ (on cc0_body) (fun _ => bodyPost m c) := by
  refine (front_intro m c).trans ?_
  iintro ⟨%K, H⟩
  iapply ((run_body m K c).trans (wp_mono _ _ _ fun _ => (finish m K c).trans (back_elim m c))) $$ H

set_option maxRecDepth 65536 in
/-- The library's body obligation on core `c`. -/
theorem body_obligation (c : Dev nD) : BodyObligation (dats (F := F) m 0 c) (defs₀ (F := F)) 𝒱₀ () Set.univ := fun t => by
  rw [fin_N0 t]
  rw [bigSep_W0, bigSep_W0]
  exact sound_body m c

/-! ## Cells and tokens -/

theorem sS_inj {x y : X} (h : sS x = sS y) : x = y := by rw [← (sS_facts x).2.2, h, (sS_facts y).2.2]
theorem rS_inj {x y : X} (h : rS x = rS y) : x = y := by rw [← (rS_facts x).2.2, h, (rS_facts y).2.2]
theorem sS_ne_rS (x y : X) : sS x ≠ rS y := fun h => by
  have := (sS_facts x).2.1; rw [h, (rS_facts y).2.1] at this; exact absurd this (by decide)

theorem csem_injective : Function.Injective csem := by
  rintro (_ | ⟨x, _ | _⟩) (_ | ⟨y, _ | _⟩) h
  · rfl
  · cases h
  · cases h
  · cases h
  · rw [sS_inj (SemLoc.dma.inj h)]
  · exact absurd (SemLoc.dma.inj h) (sS_ne_rS x y)
  · cases h
  · exact absurd (SemLoc.dma.inj h).symm (sS_ne_rS y x)
  · rw [rS_inj (SemLoc.dma.inj h)]

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The duties of one device's cells: the barrier's two, one of every other semaphore. -/
abbrev TK : Type := Bool ⊕ (X × Bool)
def tokOf (cj : Dev nD × TK) : GSem nD τ sig × ℕ × Bool := match cj.2 with
  | .inl d => (barCell cj.1, 0, d)
  | .inr k => (kcell (cj.1, some k), 0, false)
theorem tokOf_injective : Function.Injective tokOf := by
  rintro ⟨c, j⟩ ⟨c', j'⟩ h
  have h0 : (tokOf (c, j)).1 = (tokOf (c', j')).1 := congrArg Prod.fst h
  have h2 : (tokOf (c, j)).2.2 = (tokOf (c', j')).2.2 := congrArg (fun t : GSem nD τ sig × ℕ × Bool => t.2.2) h
  cases j with
  | inl d => cases j' with
    | inl d' =>
      have e := kcell_injective (show kcell (c, none) = kcell (c', none) from h0)
      have h3 : d = d' := h2
      rw [h3, (Prod.mk.inj e).1]
    | inr k' => exact absurd (Prod.mk.inj (kcell_injective (show kcell (c, none) = kcell (c', some k') from h0))).2 (Option.some_ne_none _).symm
  | inr k => cases j' with
    | inl d' => exact absurd (Prod.mk.inj (kcell_injective (show kcell (c, some k) = kcell (c', none) from h0))).2 (Option.some_ne_none _)
    | inr k' =>
      have e := Prod.mk.inj (kcell_injective (show kcell (c, some k) = kcell (c', some k') from h0))
      rw [e.1, Option.some.inj e.2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  bigSep Finset.univ fun j : TK => dutyTok ER (tokOf (c, j)).1 (tokOf (c, j)).2.1 (tokOf (c, j)).2.2

def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Semaphores -/

def osem (k : X × Bool) : SemLoc sig := csem (some k)

theorem ownSemFacts : Pipeline.OwnSemFacts cfg0.spec osem where
  isScoped := by decide
  inj := fun a b h => Option.some.inj (csem_injective h)
  disj := fun k w s h => by
    obtain ⟨x, b⟩ := k
    have hw : ∀ (w : Fin 4) (s : Fin (cfg0.spec w).nbuf), ¬ 4 ≤ ((cfg0.spec w).sem s).val := by decide
    cases b with
    | false => exact hw w s (SemLoc.dma.inj h ▸ (sS_facts x).1)
    | true => exact hw w s (SemLoc.dma.inj h ▸ (rS_facts x).1)

/-- A conjunction over all the cells of a device. -/
theorem bigSep_cells (Φ : CK → sProp 𝕄) : bigSep Finset.univ Φ = iprop(Φ none ∗ bigSep Finset.univ fun k : X × Bool => Φ (some k)) := by
  rw [bigSep_univ_equiv (Equiv.optionEquivSumPUnit.{0} (X × Bool)).symm, BI.bigSep_univ_sum]
  refine (BI.Entails.antisymm BI.sep_comm BI.sep_comm).trans ?_
  refine congrArg₂ _ ?_ rfl
  rw [show (Finset.univ : Finset PUnit.{1}) = {PUnit.unit} from rfl, bigSep_singleton]; rfl
/-- A conjunction over the transfers' semaphores. -/
theorem bigSep_sems (Φ : X × Bool → sProp 𝕄) :
    bigSep Finset.univ Φ = iprop((bigSep Finset.univ fun x : X => Φ (x, false)) ∗ bigSep Finset.univ fun x : X => Φ (x, true)) := by
  rw [bigSep_univ_prod, ← bigSep_sep']
  exact bigSep_congr fun x _ => bigSep_univ_eq_bigSepL [false, true] (by decide) (by decide) _

theorem ownSems0_eq (c : Dev nD) : (Pipeline.ownSems0 (Ix := Unit) (Name := ℕ) (U := UU) (Lvl := ℕ) (Val := Elt F) (τ := τ) osem c : sProp 𝕄)
    = bigSep Finset.univ fun k : X × Bool => semVal (kcell (c, some k)) 0 := rfl
/-- The barrier semaphore is the one the launch does not own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_cells]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing -/

def ring : Dev nD ≃ Dev nD := ⟨nxt, prv, prv_nxt, nxt_prv⟩
/-- A transfer and the device it starts from, by the device it ends on. -/
def ends : Dev nD × X ≃ Dev nD × X :=
  ⟨fun p => (tgt p.2 p.1, p.2), fun p => (org p.2 p.1, p.2), fun p => Prod.ext (org_tgt p.2 p.1) rfl, fun p => Prod.ext (tgt_org p.2 p.1) rfl⟩

/-- The tokens device `c` pays with. -/
def payToks (c : Dev nD) : sProp 𝕄 :=
  iprop((bigSep Finset.univ fun x : X => dutyTok ER (sendCell c x) 0 false) ∗ (bigSep Finset.univ fun x : X => dutyTok ER (recvCell (tgt x c) x) 0 false)
    ∗ dutyTok ER (barCell (prv c)) 0 true ∗ dutyTok ER (barCell (nxt c)) 0 false)

theorem toks_eq (c : Dev nD) : (toks c : sProp 𝕄)
    = iprop((dutyTok ER (barCell c) 0 false ∗ dutyTok ER (barCell c) 0 true)
      ∗ (bigSep Finset.univ fun x : X => dutyTok ER (sendCell c x) 0 false) ∗ bigSep Finset.univ fun x : X => dutyTok ER (recvCell c x) 0 false) := by
  unfold toks
  rw [BI.bigSep_univ_sum, bigSep_sems, bigSep_univ_eq_bigSepL [false, true] (by decide) (by decide)]
  rfl

theorem toks_recv : (bigSep Finset.univ fun c : Dev nD => bigSep Finset.univ fun x : X => (dutyTok ER (recvCell c x) 0 false : sProp 𝕄))
    = bigSep Finset.univ fun c : Dev nD => bigSep Finset.univ fun x : X => dutyTok ER (recvCell (tgt x c) x) 0 false := by
  rw [← bigSep_univ_prod (fun p : Dev nD × X => (dutyTok ER (recvCell p.1 p.2) 0 false : sProp 𝕄)), bigSep_univ_equiv ends, bigSep_univ_prod]
  rfl

theorem toks_around : (bigSep Finset.univ fun c : Dev nD => (toks c : sProp 𝕄)) ⊢ bigSep Finset.univ fun c : Dev nD => payToks c := by
  unfold payToks
  rw [bigSep_congr fun c _ => toks_eq c]
  rw [bigSep_sep', bigSep_sep', bigSep_sep', bigSep_sep', bigSep_sep', bigSep_sep', toks_recv,
    bigSep_univ_equiv ring (fun c : Dev nD => (dutyTok ER (barCell c) 0 false : sProp 𝕄)),
    bigSep_univ_equiv ring.symm (fun c : Dev nD => (dutyTok ER (barCell c) 0 true : sProp 𝕄))]
  iintro ⟨⟨H1, H2⟩, H3, H4⟩
  isplitl [H3]; · iexact H3
  isplitl [H4]; · iexact H4
  isplitl [H2]; · iexact H2
  iexact H1

theorem linear_intro (c : Dev nD) : iprop((bigSep Finset.univ fun k : CK => atPos ER (kcell (c, k)) 0 ∅ 0) ∗ payToks c) ⊢ (linear c : sProp 𝕄) := by
  rw [bigSep_cells, bigSep_sems]
  unfold linear payToks tok
  rw [bigSep_sep', bigSep_sep']
  iintro ⟨⟨HB, HS, HV⟩, H1, H2, H3, H4⟩
  isplitl [HB]; · iexact HB
  isplitl [HS H1 H2]
  · isplitl [H1]; · iexact H1
    isplitl [H2]; · iexact H2
    iexact HS
  isplitl [HV]; · iexact HV
  isplitl [H3] <;> iassumption

theorem with_records {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, HR⟩, Htok⟩
  ihave HK := (BI.bigSep_exists_pi Finset.univ (fun (ck : Dev nD × CK) (κ : ℕ) => (cellInv ER (Rd m) κ (kcell ck) : sProp 𝕄))) $$ HI
  icases HK with ⟨%K, HI⟩
  ihave Htk := (toks_around (F := F)) $$ Htok
  iapply (with_records (R := records m K) (Φ := fun c => iprop((bigSep Finset.univ fun k : CK => atPos ER (kcell (c, k)) 0 ∅ 0) ∗ payToks c)) fun c => ?_)
  · unfold G'
    iintro ⟨HR, H⟩
    iexists K
    isplitl [HR]; · iexact HR
    iapply (linear_intro c); iexact H
  isplitl [HI HR]
  · unfold records; rw [bigSep_sep']
    isplitl [HI] <;> iassumption
  · rw [bigSep_sep']
    isplitl [Hat] <;> iassumption

/-- Every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Credits and levels -/

theorem creds_owe (c : Dev nD) (l : List X) :
    (Pipeline.launchCred (fun d => owe d l) c : sProp 𝕄) ⊢ bigSepL l fun x => cred (tallyAt (recvCell c x) () N) := by
  induction l with
  | nil => exact Entails.of_eq (Pipeline.launchCred_zero c)
  | cons x l ih =>
    rw [bigSepL_cons']
    refine (Entails.of_eq (Pipeline.launchCred_add (fun d => owe d l) (fun d => tallyAt (recvCell (tgt x d) x) () N) c)).trans ?_
    refine (BI.sep_mono ih (Pipeline.launchCred_tallyAt (.dma (rS x)) (tgt x) (org x) (tgt_org x) (org_tgt x) () N c)).trans ?_
    exact BI.sep_comm

theorem creds (c : Dev nD) :
    (Pipeline.launchCred O₀ c : sProp 𝕄) ⊢ iprop(cred (tallyAt (barCell c) () 2) ∗ bigSep Finset.univ fun x : X => cred (tallyAt (recvCell c x) () N)) := by
  rw [show (O₀ : Dev nD → CellTallies nD τ sig Unit) = fun d => (owe d SL + tallyAt (barCell (nxt d)) () 1) + tallyAt (barCell (prv d)) () 1 from rfl,
    Pipeline.launchCred_add, Pipeline.launchCred_add, bigSep_univ_eq_bigSepL SL SL_univ SL_nodup]
  iintro ⟨⟨H1, H2⟩, H3⟩
  ihave Hr := (creds_owe (F := F) c SL) $$ H1
  ihave Hn := (Pipeline.launchCred_tallyAt (.reg barS) nxt prv nxt_prv prv_nxt () 1 c) $$ H2
  ihave Hp := (Pipeline.launchCred_tallyAt (.reg barS) prv nxt prv_nxt nxt_prv () 1 c) $$ H3
  isplitr [Hr]
  · rw [show (tallyAt (barCell c) () 2 : CellTallies nD τ sig Unit) = tallyAt (barCell c) () 1 + tallyAt (barCell c) () 1 from (tallyAt_add (barCell c) () 1 1).symm]
    iapply (cred_add _ _).2
    isplitl [Hn] <;> iassumption
  · iexact Hr

theorem O₀_pos {c : Dev nD} {g : GSem nD τ sig} {u : Unit} (h : 0 < O₀ c g u) : ∃ (d : Dev nD) (sm : SemLoc sig), g = ((d : Thread nD τ), sm) ∧ 0 < lv g u := by
  unfold O₀ at h
  rw [Pi.add_apply, Finsupp.add_apply, Pi.add_apply, Finsupp.add_apply, tallyAt_apply, tallyAt_apply] at h
  by_cases h1 : g = barCell (nxt c) ∧ u = ()
  · exact ⟨_, _, h1.1, by rw [h1.1]; exact Nat.one_pos⟩
  by_cases h2 : g = barCell (prv c) ∧ u = ()
  · exact ⟨_, _, h2.1, by rw [h2.1]; exact Nat.one_pos⟩
  rw [if_neg h1, if_neg h2] at h
  simp only [Nat.add_zero] at h
  obtain ⟨y, -, e⟩ := owe_pos (l := SL) (c := c) h
  exact ⟨_, _, e, by rw [e, lv_recv]; unfold lx; omega⟩

theorem mayWait_stage (c : Dev nD) (q : DmaSem sig) (hq : ¬ 4 ≤ q.val) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by obtain ⟨d, sm, e, -⟩ := O₀_pos hg; rw [e, L_tc]; exact Finset.mem_singleton_self _)
      (fun p hp => by rw [Finset.mem_singleton.mp hp]; exact le_of_eq (if_neg fun h => hq h.1))
      (fun g u hg => by obtain ⟨d, sm, -, e⟩ := O₀_pos hg; exact e)
  · rw [MayWait_zero]; iintro -; iempintro

/-! ## The launch theorem's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, ownSems0_eq, unscopedSems0_eq, bigSep_sems]
  unfold Φ₁
  iintro ⟨Hr, HzS, HzV, HzB⟩
  isplitl [HzB]; · iexact HzB
  isplitl [HzS HzV]
  · isplitl [HzS]; · iexact HzS
    iexact HzV
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At four devices, over any float values, from any memory with every counter at zero: @main terminates, each window's array
    holds its final contents and every counter is at zero again. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KProof

end
-- ==== Proof.RefRun.lean ====
/-
# The run of the reference without its clip

One device over the whole arrays: two products of matrices and the activation between them, read off by the library's run
of a straight line of host operations; and the result at an index, as one sum over the 8192 hidden columns.
-/
module

public import proofs.«01_k».proof.Proof.Gen.UnclippedIdeal
public import Idealize.ShloMosaic.Lib.StableHlo.Run
public import Idealize.ShloMosaic.Lib.Pointwise
public import Idealize.ShloMosaic.Lib.IdealHost
public import Idealize.ShloMosaic.Adequacy

@[expose] public section

noncomputable section

namespace Cert.KProof.Ref

open Cert.UnclippedIdeal Cert.UnclippedIdeal.Gen
open Idealize.ShloMosaic Idealize.ShloMosaic.TcCoe Idealize.ShloMosaic.StableHlo Idealize.SL.Sem

variable {F : FTy → Type} [FloatOps F]

/-- The hidden layer before the activation. -/
def hidden (x : FVec F S2048x512 .f32) (w1 : FVec F S512x8192 .f32) : FVec F S2048x8192 .f32 :=
  Host.dotGeneral dot_S2048x512_S512x8192_S2048x8192_1_0_0_1_n_n none x w1
/-- The activation `h / (1 + exp (-h))`, entry by entry. -/
def gate (h : FVec F S2048x8192 .f32) : FVec F S2048x8192 .f32 :=
  Host.divf h (addf (broadcastInDim S2048x8192 ![] bcast_S_S2048x8192 (constant S_ .f32 0x3F800000#32)) (Host.exp (Host.negf h)))
/-- The reference's result. -/
def refOut (x : FVec F S2048x512 .f32) (w1 : FVec F S512x8192 .f32) (w2 : FVec F S8192x512 .f32) : FVec F S2048x512 .f32 :=
  Host.dotGeneral dot_S2048x8192_S8192x512_S2048x512_1_0_0_1_n_n none (gate (hidden x w1)) w2

/-- The eight operations of the program, in order. -/
abbrev ops : List (HloOp τ sig (Elt F)) :=
  [ binary main_arg0 main_arg1 main_v0 ((fun l r => Host.dotGeneral dot_S2048x512_S512x8192_S2048x8192_1_0_0_1_n_n none l r) : FVec F S2048x512 .f32 → FVec F S512x8192 .f32 → FVec F S2048x8192 .f32),
    unary main_v0 main_v1 (Host.negf (F := F) (s := S2048x8192) (φ := .f32)),
    unary main_v1 main_v2 (Host.exp (F := F) (s := S2048x8192) (φ := .f32)),
    nullary main_cst (constant S_ .f32 0x3F800000#32),
    unary main_cst main_v3 (broadcastInDim S2048x8192 ![] bcast_S_S2048x8192),
    binary main_v3 main_v2 main_v4 (addf (F := F) (s := S2048x8192) (φ := .f32)),
    binary main_v0 main_v4 main_v5 (Host.divf (F := F) (s := S2048x8192) (φ := .f32)),
    binary main_v5 main_arg2 main_v6 ((fun l r => Host.dotGeneral dot_S2048x8192_S8192x512_S2048x512_1_0_0_1_n_n none l r) : FVec F S2048x8192 .f32 → FVec F S8192x512 .f32 → FVec F S2048x512 .f32) ]

theorem main_ops (c : Dev nD) : main (F := F) c = seq ops := rfl

theorem ops_at_result (V : Valuation τ sig (Elt F)) :
    after ops V (main_v6 : DevRef τ sig)
      = refOut (V (main_arg0 : DevRef τ sig)) (V (main_arg1 : DevRef τ sig)) (V (main_arg2 : DevRef τ sig)) := by
  after_results
  rfl
theorem ops_at_x (V : Valuation τ sig (Elt F)) : after ops V (main_arg0 : DevRef τ sig) = V (main_arg0 : DevRef τ sig) := by
  after_results
theorem ops_at_w1 (V : Valuation τ sig (Elt F)) : after ops V (main_arg1 : DevRef τ sig) = V (main_arg1 : DevRef τ sig) := by
  after_results
theorem ops_at_w2 (V : Valuation τ sig (Elt F)) : after ops V (main_arg2 : DevRef τ sig) = V (main_arg2 : DevRef τ sig) := by
  after_results

theorem ops_on_tc : (ops : List (HloOp τ sig (Elt F))).Forall fun op => op.bufs ⊆ tcRefs τ sig :=
  ⟨binary_bufs_sub .., unary_bufs_sub .., unary_bufs_sub .., nullary_bufs_sub .., unary_bufs_sub .., binary_bufs_sub ..,
    binary_bufs_sub .., binary_bufs_sub ..⟩

/-- From any memory the reference ends, its result buffer at `refOut` of its three arguments, those unchanged. -/
theorem run (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem (c.tc.loc main_v6) = refOut (m (c.tc.loc main_arg0)) (m (c.tc.loc main_arg1)) (m (c.tc.loc main_arg2))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2) :=
  (θ_run defs _ _).mono
    (fun _ h c => ⟨(h c main_v6).trans (ops_at_result _), (h c main_arg0).trans (ops_at_x _), (h c main_arg1).trans (ops_at_w1 _),
      (h c main_arg2).trans (ops_at_w2 _)⟩)
    (run_seq (by decide) (by decide) defs main (fun _ => ops) main_ops (fun _ => ops_on_tc) m ρ)

/-! ## The result at an index -/

/-- The activation on the extended reals. -/
def act (h : EReal) : EReal := Ideal.div h (1 + Ideal.exp (-h))

theorem refOut_apply (x : FVec Ideal S2048x512 .f32) (w1 : FVec Ideal S512x8192 .f32) (w2 : FVec Ideal S8192x512 .f32)
    (i : Fin 2048) (j : Fin 512) :
    refOut x w1 w2 (ix2 i j)
      = ∑ k : Fin 8192, act (∑ q : Fin 512, x (ix2 i q) * w1 (ix2 q k)) * w2 (ix2 k j) := by
  pointwise [refOut, gate, hidden]
  rfl

end Cert.KProof.Ref

end
-- ==== Proof.Values.lean ====
/-
# What a device's result holds

At the extended reals: a device's share of the feed-forward at an index, as a double sum over its hidden columns; and the
result of a device, its own share and the three that arrive, as one sum over the four devices.
-/
module

public import proofs.«01_k».proof.Proof.Launch
public import proofs.«01_k».proof.Proof.RefRun

@[expose] public section

noncomputable section

namespace Cert.KProof

open Cert.KernelIdeal Cert.KernelIdeal.Gen
open Idealize.ShloMosaic Idealize.ShloMosaic.TcCoe Idealize.SL.Sem
open Cert.KProof.Ref (act)

/-- The kernel's form of the activation is the reference's: the divisor is never zero. -/
theorem act_eq (h : EReal) : h * Ideal.div 1 (1 + Ideal.exp (0 - h)) = act h := by
  have hp : (0 : EReal) ≤ Ideal.exp (-h) := by
    induction h using EReal.rec with
    | bot => simp
    | top => simp
    | coe a => rw [← EReal.coe_neg, Ideal.exp_coe]; exact_mod_cast (Real.exp_pos _).le
  have hy : 1 + Ideal.exp (-h) ≠ 0 := fun e =>
    absurd (e ▸ le_add_of_nonneg_right hp : (1 : EReal) ≤ 0) (by simp)
  rw [zero_sub, act, Ideal.mul_one_div hy]

/-- The share of one device at an index. -/
theorem ffn_apply (x : FVec Ideal S128x512 .f32) (w1 : FVec Ideal S512x2048 .f32) (w2 : FVec Ideal S2048x512 .f32)
    (i : Fin 128) (j : Fin 512) :
    ffn x w1 w2 (ix2 i j) = ∑ k : Fin 2048, act (∑ q : Fin 512, x (ix2 i q) * w1 (ix2 q k)) * w2 (ix2 k j) := by
  pointwise [ffn, k0_pay1, k0_pay2]
  simp only [act_eq]

/-- The four devices, going round from `c`: itself, two back, one ahead. -/
theorem around (r : Fin 2) (c : Dev nD) (f : Dev nD → EReal) :
    f c + (f (bwd r c) + f (bwd r (bwd r c))) + f (fwd r c) = ∑ d : Dev nD, f d := by
  have e : ∑ d : Dev nD, f d = f 0 + f 1 + f 2 + f 3 := Fin.sum_univ_four f
  rw [e]
  fin_cases r <;> fin_cases c <;>
    simp only [bwd, fwd, nxt, prv] <;> simp only [Nat.reduceAdd, Nat.reduceMod] <;>
    first
      | (show f 0 + (f 3 + f 2) + f 1 = _; ac_rfl)
      | (show f 1 + (f 0 + f 3) + f 2 = _; ac_rfl)
      | (show f 2 + (f 1 + f 0) + f 3 = _; ac_rfl)
      | (show f 3 + (f 2 + f 1) + f 0 = _; ac_rfl)
      | (show f 0 + (f 1 + f 2) + f 3 = _; ac_rfl)
      | (show f 1 + (f 2 + f 3) + f 0 = _; ac_rfl)
      | (show f 2 + (f 3 + f 0) + f 1 = _; ac_rfl)
      | (show f 3 + (f 0 + f 1) + f 2 = _; ac_rfl)

theorem fwd_bwd (r : Fin 2) (c : Dev nD) : fwd r (bwd r c) = c := by revert c; revert r; decide
theorem bwd_fwd (r : Fin 2) (c : Dev nD) : bwd r (fwd r c) = c := by revert c; revert r; decide
theorem bwd_four (r : Fin 2) (c : Dev nD) : bwd r (bwd r (bwd r (bwd r c))) = c := by revert c; revert r; decide

variable (m : (ℓ : Loc nD τ sig) → Buf (Elt Ideal) ℓ)

/-- A block of a device's result: the shares of all four devices of that device's rows. -/
theorem res_apply (c : Dev nD) (r g : Fin 2) (j : S128x512.Idx) : res m c r g j = ∑ d : Dev nD, fc m d (xs m c r g) j := by
  rw [← around r c]
  show fc m c (xs m c r g) j + rv m (4, r, g) c j + rv m (5, r, g) c j = _
  rw [show rv m (4, r, g) c = comb m (bwd r c) r g from rfl, show rv m (5, r, g) c = fc m (fwd r c) (xs m (bwd r (fwd r c)) r g) from rfl,
    bwd_fwd]
  rw [show comb m (bwd r c) r g j = fc m (bwd r c) (xs m (fwd r (bwd r c)) r g) j
    + fc m (bwd r (bwd r c)) (xs m (bwd r (bwd r (bwd r (bwd r c)))) r g) j from rfl, fwd_bwd, bwd_four]

/-! ## The staged arrays are the argument buffers -/

section
variable {F : FTy → Type} [FloatOps F] (m : (ℓ : Loc nD τ sig) → Buf (Elt F) ℓ)

theorem xstg_eq (c : Dev nD) : xstg m c = m (c.tc.loc main_arg0) :=
  Memref.read_access_unit_zero (Elt F) main_arg0 (funext fun a => by fin_cases a <;> decide) (fun a => by fin_cases a <;> decide) _
theorem w1stg_eq (c : Dev nD) : w1stg m c = m (c.tc.loc main_arg1) :=
  Memref.read_access_unit_zero (Elt F) main_arg1 (funext fun a => by fin_cases a <;> decide) (fun a => by fin_cases a <;> decide) _
theorem w2stg_eq (c : Dev nD) : w2stg m c = m (c.tc.loc main_arg2) :=
  Memref.read_access_unit_zero (Elt F) main_arg2 (funext fun a => by fin_cases a <;> decide) (fun a => by fin_cases a <;> decide) _

/-- The result buffer, after the launch. -/
theorem final_out (c : Dev nD) : finalA m c (3 : Fin 4) = outAt m c := by
  have h : (win0_3.blk (0 : Fin 1)).view.read (Elt F) (finalA m c (3 : Fin 4)) = outAt m c := by
    unfold finalA
    rw [show cfg0.N = ((0 : Fin 1) : Fin cfg0.N).val + 1 from rfl, (dats m 0 c).arrAt_succ (3 : Fin 4) (0 : Fin 1),
      if_pos (flush0_3 (0 : Fin 1))]
    exact View.read_write_univ _ _
  exact (Memref.read_access_unit_zero (Elt F) main_v1 (funext fun a => by fin_cases a <;> decide) (fun a => by fin_cases a <;> decide) _).symm.trans h

theorem final_arg0 (c : Dev nD) : finalA m c (0 : Fin 4) = m (c.tc.loc main_arg0) := (dats m 0 c).arrAt_in (0 : Fin 4) rfl _
theorem final_arg1 (c : Dev nD) : finalA m c (1 : Fin 4) = m (c.tc.loc main_arg1) := (dats m 0 c).arrAt_in (1 : Fin 4) rfl _
theorem final_arg2 (c : Dev nD) : finalA m c (2 : Fin 4) = m (c.tc.loc main_arg2) := (dats m 0 c).arrAt_in (2 : Fin 4) rfl _

/-- The whole run, read at the program's four buffers. -/
theorem run_buffers (ρ : Dev nD → PrngReg) :
    θ_run defs (onTc (τ := τ) (main (F := F))) ⟨m, fun _ => 0, ρ⟩ fun r =>
      (∀ c : Dev nD, r.2.mem (c.tc.loc main_v1) = outAt m c ∧ r.2.mem (c.tc.loc main_arg0) = m (c.tc.loc main_arg0)
        ∧ r.2.mem (c.tc.loc main_arg1) = m (c.tc.loc main_arg1) ∧ r.2.mem (c.tc.loc main_arg2) = m (c.tc.loc main_arg2))
      ∧ r.2.sem = fun _ => 0 :=
  (θ_run defs _ _).mono
    (fun _ h => ⟨fun c => ⟨(h.1 c (3 : Fin 4)).trans (final_out m c), (h.1 c (0 : Fin 4)).trans (final_arg0 m c),
      (h.1 c (1 : Fin 4)).trans (final_arg1 m c), (h.1 c (2 : Fin 4)).trans (final_arg2 m c)⟩, h.2⟩)
    (run_main m ρ)
end

/-- The three argument blocks of a device, as arrays of extended reals. -/
def xAt (c : Dev nD) : FVec Ideal S512x512 .f32 := m (c.tc.loc main_arg0)
def w1At (c : Dev nD) : FVec Ideal S512x2048 .f32 := m (c.tc.loc main_arg1)
def w2At (c : Dev nD) : FVec Ideal S2048x512 .f32 := m (c.tc.loc main_arg2)

/-- A device's result at an index: all four devices' hidden columns, of that device's row. -/
theorem outAt_apply (c : Dev nD) (i j : Fin 512) :
    outAt m c (ix2 i j) = ∑ d : Dev nD, ∑ k : Fin 2048,
      act (∑ q : Fin 512, xAt m c (ix2 i q) * w1At m d (ix2 q k)) * w2At m d (ix2 k j) := by
  have hi := i.isLt
  let r : Fin 2 := ⟨i.val / 256, by omega⟩
  let g : Fin 2 := ⟨i.val % 256 / 128, by omega⟩
  let i' : Fin 128 := ⟨i.val % 128, by omega⟩
  have he (q : Fin 512) : (rc5 r g).emb (ix2 i' q) = ix2 i q := by
    refine funext fun a => ?_
    fin_cases a
    · exact Fin.ext ((emb5_row r g (ix2 i' q)).trans (by show 256 * (i.val / 256) + 128 * (i.val % 256 / 128) + i.val % 128 = i.val; omega))
    · exact Fin.ext (emb5_col r g (ix2 i' q))
  rw [← he j, outAt_emb, res_apply]
  refine Finset.sum_congr rfl fun d _ => ?_
  unfold fc
  rw [ffn_apply, w1stg_eq, w2stg_eq]
  refine Finset.sum_congr rfl fun k _ => ?_
  refine congrArg (fun h => act h * _) (Finset.sum_congr rfl fun q _ => ?_)
  unfold xs
  rw [he q, xstg_eq]
  rfl

/-! ## A block of the reference's result -/

theorem outAt_block (X : FVec Ideal ⟨2, ![2048, 512]⟩ .f32) (W1 : FVec Ideal ⟨2, ![512, 8192]⟩ .f32) (W2 : FVec Ideal ⟨2, ![8192, 512]⟩ .f32)
    (hX : ∀ c : Dev nD, m (c.tc.loc main_arg0) = Layout.block ⟨2, ![512, 512]⟩ ⟨2, ![2048, 512]⟩ 0 4 c X)
    (hW1 : ∀ c : Dev nD, m (c.tc.loc main_arg1) = Layout.block ⟨2, ![512, 2048]⟩ ⟨2, ![512, 8192]⟩ 1 4 c W1)
    (hW2 : ∀ c : Dev nD, m (c.tc.loc main_arg2) = Layout.block ⟨2, ![2048, 512]⟩ ⟨2, ![8192, 512]⟩ 0 4 c W2) (c : Dev nD) :
    outAt m c = Layout.block ⟨2, ![512, 512]⟩ ⟨2, ![2048, 512]⟩ 0 4 c (Ref.refOut X W1 W2) := by
  funext i
  have hc : c.val < 4 := c.isLt
  have hi : (i 0).val < 512 := (i 0).isLt
  let R : Fin 2048 := ⟨c.val * 512 + (i 0).val, by omega⟩
  obtain ⟨a, b, rfl⟩ : ∃ a b : Fin 512, i = ix2 a b := ⟨i 0, i 1, ValueIdx.eq_ix2 i⟩
  rw [outAt_apply, Layout.block_apply]
  have hb (q : Fin 512) : (by decide : Layout.Tiles ⟨2, ![512, 512]⟩ ⟨2, ![2048, 512]⟩ 0 4).idx c (ix2 a q) = ix2 R q := by
    refine funext fun x => ?_
    fin_cases x <;> rfl
  rw [hb b, Ref.refOut_apply]
  have hk (d : Fin 4) (k : Fin 2048) : d.val * 2048 + k.val < 8192 := by omega
  have hs (f : Fin 8192 → EReal) : ∑ K : Fin 8192, f K = ∑ d : Fin 4, ∑ k : Fin 2048, f ⟨d.val * 2048 + k.val, hk d k⟩ := by
    rw [← Equiv.sum_comp (finProdFinEquiv (m := 4) (n := 2048) : Fin 4 × Fin 2048 ≃ Fin 8192) f, Fintype.sum_prod_type]
    refine Finset.sum_congr rfl fun d _ => Finset.sum_congr rfl fun k _ => congrArg f (Fin.ext ?_)
    show k.val + 2048 * d.val = d.val * 2048 + k.val
    omega
  rw [hs]
  refine Finset.sum_congr rfl fun d _ => Finset.sum_congr rfl fun k _ => ?_
  have e1 (q : Fin 512) : w1At m d (ix2 q k) = W1 (ix2 q ⟨d.val * 2048 + k.val, hk d k⟩) := by
    rw [w1At, hW1 d, Layout.block_apply]
    refine congrArg W1 (funext fun x => ?_)
    fin_cases x <;> rfl
  have e2 : w2At m d (ix2 k b) = W2 (ix2 ⟨d.val * 2048 + k.val, hk d k⟩ b) := by
    rw [w2At, hW2 d, Layout.block_apply]
    refine congrArg W2 (funext fun x => ?_)
    fin_cases x <;> rfl
  rw [e2]
  refine congrArg (fun h => act h * _) (Finset.sum_congr rfl fun q _ => ?_)
  rw [e1, xAt, hX c, Layout.block_apply, hb q]

end Cert.KProof

end
-- ==== Proof.RefClip.lean ====
/-
# The run of the reference

As the reference without its clip, with the hidden entries held to [-60, 60] inside the exponential: its run, its result at
an index, and that the two references agree where no hidden entry leaves the interval.
-/
module

public import proofs.«01_k».proof.Proof.RefRun
public import proofs.«01_k».proof.Proof.Gen.ReferenceIdeal

@[expose] public section

noncomputable section

namespace Cert.KProof.Clip

open Cert.ReferenceIdeal Cert.ReferenceIdeal.Gen
open Idealize.ShloMosaic Idealize.ShloMosaic.TcCoe Idealize.ShloMosaic.StableHlo Idealize.SL.Sem
open Cert.KProof.Ref (act)

variable {F : FTy → Type} [FloatOps F]

/-- The hidden layer before the activation. -/
def hidden (x : FVec F S2048x512 .f32) (w1 : FVec F S512x8192 .f32) : FVec F S2048x8192 .f32 :=
  Host.dotGeneral dot_S2048x512_S512x8192_S2048x8192_1_0_0_1_n_n none x w1
/-- Every entry held to [-60, 60]. -/
def clip (h : FVec F S2048x8192 .f32) : FVec F S2048x8192 .f32 :=
  minimumf (broadcastInDim S2048x8192 ![] bcast_S_S2048x8192 (sitofp .f32 (constantI S_ 32 60#32)))
    (maximumf (broadcastInDim S2048x8192 ![] bcast_S_S2048x8192 (sitofp .f32 (constantI S_ 32 4294967236#32))) h)
/-- The activation `h / (1 + exp (-clip h))`, entry by entry. -/
def gate (h : FVec F S2048x8192 .f32) : FVec F S2048x8192 .f32 :=
  Host.divf h (addf (broadcastInDim S2048x8192 ![] bcast_S_S2048x8192 (constant S_ .f32 0x3F800000#32)) (Host.exp (Host.negf (clip h))))
/-- The reference's result. -/
def refOut (x : FVec F S2048x512 .f32) (w1 : FVec F S512x8192 .f32) (w2 : FVec F S8192x512 .f32) : FVec F S2048x512 .f32 :=
  Host.dotGeneral dot_S2048x8192_S8192x512_S2048x512_1_0_0_1_n_n none (gate (hidden x w1)) w2

/-- The operations of the program, those of the call of `clip` in their place. -/
abbrev ops : List (HloOp τ sig (Elt F)) :=
  [ binary main_arg0 main_arg1 main_v0 ((fun l r => Host.dotGeneral dot_S2048x512_S512x8192_S2048x8192_1_0_0_1_n_n none l r) : FVec F S2048x512 .f32 → FVec F S512x8192 .f32 → FVec F S2048x8192 .f32),
    nullary main_c (constantI S_ 32 4294967236#32),
    nullary main_c_0 (constantI S_ 32 60#32),
    unary main_c main_call0_v0 (sitofp (F := F) (s := S_) .f32),
    unary main_call0_v0 main_call0_v1 (broadcastInDim S2048x8192 ![] bcast_S_S2048x8192),
    binary main_call0_v1 main_v0 main_call0_v2 (maximumf (F := F) (s := S2048x8192) (φ := .f32)),
    unary main_c_0 main_call0_v3 (sitofp (F := F) (s := S_) .f32),
    unary main_call0_v3 main_call0_v4 (broadcastInDim S2048x8192 ![] bcast_S_S2048x8192),
    binary main_call0_v4 main_call0_v2 main_v1 (minimumf (F := F) (s := S2048x8192) (φ := .f32)),
    unary main_v1 main_v2 (Host.negf (F := F) (s := S2048x8192) (φ := .f32)),
    unary main_v2 main_v3 (Host.exp (F := F) (s := S2048x8192) (φ := .f32)),
    nullary main_cst (constant S_ .f32 0x3F800000#32),
    unary main_cst main_v4 (broadcastInDim S2048x8192 ![] bcast_S_S2048x8192),
    binary main_v4 main_v3 main_v5 (addf (F := F) (s := S2048x8192) (φ := .f32)),
    binary main_v0 main_v5 main_v6 (Host.divf (F := F) (s := S2048x8192) (φ := .f32)),
    binary main_v6 main_arg2 main_v7 ((fun l r => Host.dotGeneral dot_S2048x8192_S8192x512_S2048x512_1_0_0_1_n_n none l r) : FVec F S2048x8192 .f32 → FVec F S8192x512 .f32 → FVec F S2048x512 .f32) ]

theorem main_ops (c : Dev nD) : main (F := F) c = seq ops := rfl

theorem ops_at_result (V : Valuation τ sig (Elt F)) :
    after ops V (main_v7 : DevRef τ sig)
      = refOut (V (main_arg0 : DevRef τ sig)) (V (main_arg1 : DevRef τ sig)) (V (main_arg2 : DevRef τ sig)) := by
  after_results
  rfl
theorem ops_at_args (V : Valuation τ sig (Elt F)) : after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig) := by
  refine ⟨?_, ?_, ?_⟩ <;> after_results

theorem ops_on_tc : (ops : List (HloOp τ sig (Elt F))).Forall fun op => op.bufs ⊆ tcRefs τ sig :=
  ⟨binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., nullary_bufs_sub ..,
    unary_bufs_sub .., binary_bufs_sub .., binary_bufs_sub .., binary_bufs_sub ..⟩

/-- From any memory the reference ends, its result buffer at `refOut` of its three arguments, those unchanged. -/
theorem run (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem (c.tc.loc main_v7) = refOut (m (c.tc.loc main_arg0)) (m (c.tc.loc main_arg1)) (m (c.tc.loc main_arg2))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2) :=
  (θ_run defs _ _).mono
    (fun _ h c => ⟨(h c main_v7).trans (ops_at_result _), (h c main_arg0).trans (ops_at_args _).1,
      (h c main_arg1).trans (ops_at_args _).2.1, (h c main_arg2).trans (ops_at_args _).2.2⟩)
    (run_seq (by decide) (by decide) defs main (fun _ => ops) main_ops (fun _ => ops_on_tc) m ρ)

/-! ## Where the clip does nothing -/

/-- The activation on the extended reals, with the clip. -/
def actClip (h : EReal) : EReal := Ideal.div h (1 + Ideal.exp (-(min ((60 : ℝ) : EReal) (max ((-60 : ℝ) : EReal) h))))

theorem actClip_eq {h : EReal} (lo : ((-60 : ℝ) : EReal) ≤ h) (hi : h ≤ ((60 : ℝ) : EReal)) : actClip h = act h := by
  unfold actClip act
  rw [max_eq_right lo, min_eq_right hi]

theorem refOut_apply (x : FVec Ideal S2048x512 .f32) (w1 : FVec Ideal S512x8192 .f32) (w2 : FVec Ideal S8192x512 .f32)
    (i : Fin 2048) (j : Fin 512) :
    refOut x w1 w2 (ix2 i j)
      = ∑ k : Fin 8192, actClip (∑ q : Fin 512, x (ix2 i q) * w1 (ix2 q k)) * w2 (ix2 k j) := by
  pointwise [refOut, gate, clip, hidden]
  have lo : (FloatOps.sitofp (F := Ideal) FTy.f32 4294967236#32 : EReal) = ((-60 : ℝ) : EReal) := by
    change (((4294967236#32 : BitVec 32).toInt : ℝ) : EReal) = _
    rw [show (4294967236#32 : BitVec 32).toInt = -60 by decide]
    norm_num
  have hi : (FloatOps.sitofp (F := Ideal) FTy.f32 60#32 : EReal) = ((60 : ℝ) : EReal) := by
    change (((60#32 : BitVec 32).toInt : ℝ) : EReal) = _
    rw [show (60#32 : BitVec 32).toInt = 60 by decide]
    norm_num
  rw [lo, hi]
  rfl

/-- Cauchy's inequality, of extended reals: the two sums of squares keep every entry finite. -/
theorem dot_bound {n : ℕ} {a b : Fin n → EReal} (ha : ∑ q, a q * a q ≤ ((900 : ℝ) : EReal)) (hb : ∑ q, b q * b q ≤ ((4 : ℝ) : EReal)) :
    ((-60 : ℝ) : EReal) ≤ ∑ q, a q * b q ∧ ∑ q, a q * b q ≤ ((60 : ℝ) : EReal) := by
  have nonneg (x : EReal) : 0 ≤ x * x := by
    induction x using EReal.rec with
    | bot => simp
    | top => simp
    | coe r => rw [← EReal.coe_mul]; exact_mod_cast mul_self_nonneg r
  have real {f : Fin n → EReal} {B : ℝ} (h : ∑ q, f q * f q ≤ (B : EReal)) (q : Fin n) : ((f q).toReal : EReal) = f q := by
    have hq : f q * f q ≤ (B : EReal) := (Finset.single_le_sum (fun p _ => nonneg (f p)) (Finset.mem_univ q)).trans h
    refine EReal.coe_toReal (fun e => ?_) (fun e => ?_) <;>
      · rw [e] at hq
        simp at hq
  obtain ⟨a', rfl⟩ : ∃ a' : Fin n → ℝ, a = fun q => (a' q : EReal) := ⟨_, funext fun q => (real ha q).symm⟩
  obtain ⟨b', rfl⟩ : ∃ b' : Fin n → ℝ, b = fun q => (b' q : EReal) := ⟨_, funext fun q => (real hb q).symm⟩
  have sum (f g : Fin n → ℝ) : ∑ q, (f q : EReal) * (g q : EReal) = ((∑ q, f q * g q : ℝ) : EReal) := by
    simp only [← EReal.coe_mul]
    exact (map_sum (⟨⟨Real.toEReal, rfl⟩, EReal.coe_add⟩ : ℝ →+ EReal) _ _).symm
  simp only [sum, EReal.coe_le_coe_iff] at ha hb ⊢
  have cs := Finset.sum_mul_sq_le_sq_mul_sq Finset.univ a' b'
  simp only [pow_two] at cs
  have h0 : 0 ≤ ∑ q, a' q * a' q := Finset.sum_nonneg fun q _ => mul_self_nonneg _
  have h1 : 0 ≤ ∑ q, b' q * b' q := Finset.sum_nonneg fun q _ => mul_self_nonneg _
  have := abs_le.1 (abs_le_of_sq_le_sq (show (∑ q, a' q * b' q) ^ 2 ≤ (60 : ℝ) ^ 2 by nlinarith) (by norm_num))
  exact this

/-- Under the two bounds the clip changes nothing. -/
theorem refOut_eq (x : FVec Ideal S2048x512 .f32) (w1 : FVec Ideal S512x8192 .f32) (w2 : FVec Ideal S8192x512 .f32)
    (hx : ∀ i : Fin 2048, ∑ q : Fin 512, x (ix2 i q) * x (ix2 i q) ≤ ((900 : ℝ) : EReal))
    (hw : ∀ k : Fin 8192, ∑ q : Fin 512, w1 (ix2 q k) * w1 (ix2 q k) ≤ ((4 : ℝ) : EReal)) :
    refOut x w1 w2 = Ref.refOut x w1 w2 := by
  funext i
  obtain ⟨a, b, rfl⟩ : ∃ (a : Fin 2048) (b : Fin 512), i = ix2 a b := ⟨i 0, i 1, ValueIdx.eq_ix2 i⟩
  rw [refOut_apply, Ref.refOut_apply]
  refine Finset.sum_congr rfl fun k _ => ?_
  have h := dot_bound (hx a) (hw k)
  rw [actClip_eq h.1 h.2]

end Cert.KProof.Clip

end
-- ==== Proof.Small.lean ====
/-
# What the precondition says

Read at an index: the squares of a row of the activations sum to at most 900, those of a column of the first weights to at
most 4. Every row and column of the whole arrays lies on some device.
-/
module

public import proofs.«01_k».proof.Proof.Values
public import proofs.«01_k».proof.Proof.RefClip
public import proofs.«01_k».proof.Proof.Gen.Pre_small_KernelIdeal

@[expose] public section

noncomputable section

namespace Cert.KProof

open Cert.KernelIdeal
open Idealize.ShloMosaic Idealize.ShloMosaic.TcCoe

theorem ofBits_900 : Ideal.ofBits .f32 0x44610000#32 = ((900 : ℝ) : EReal) := by
  simp [Ideal.ofBits, Ideal.ieee, -EReal.coe_mul]; norm_num
theorem ofBits_4 : Ideal.ofBits .f32 0x40800000#32 = ((4 : ℝ) : EReal) := by
  simp [Ideal.ofBits, Ideal.ieee, -EReal.coe_mul]; norm_num

/-- Two tests both passed. -/
theorem both_of_andi {p q : Prop} [Decidable p] [Decidable q]
    (h : IntOp.andi (BitVec.ofBool (decide p)) (BitVec.ofBool (decide q)) = 1#1) : p ∧ q := by
  by_cases hp : p <;> by_cases hq : q <;> simp_all [IntOp.andi]

/-- The precondition at one device, at an index. -/
theorem small_at (x : FVec Ideal ⟨2, ![512, 512]⟩ .f32) (w1 : FVec Ideal ⟨2, ![512, 2048]⟩ .f32) (w2 : FVec Ideal ⟨2, ![2048, 512]⟩ .f32)
    (h : Cert.Pre_small_KernelIdeal.fn (F := Ideal) x w1 w2 = fun _ => 1#1) (i : Fin 512) (k : Fin 2048) :
    ∑ q : Fin 512, x (ix2 i q) * x (ix2 i q) ≤ ((900 : ℝ) : EReal)
      ∧ ∑ q : Fin 512, w1 (ix2 q k) * w1 (ix2 q k) ≤ ((4 : ℝ) : EReal) := by
  have h := congrFun h (ix2 i k)
  pointwise [Cert.Pre_small_KernelIdeal.fn] at h
  have h := both_of_andi h
  rwa [ofBits_900, ofBits_4] at h

/-- Under the precondition the reference's clip does nothing to the arrays the devices hold. -/
theorem clip_idle (m : (ℓ : Loc nD τ sig) → Buf (Elt Ideal) ℓ)
    (X : FVec Ideal ⟨2, ![2048, 512]⟩ .f32) (W1 : FVec Ideal ⟨2, ![512, 8192]⟩ .f32) (W2 : FVec Ideal ⟨2, ![8192, 512]⟩ .f32)
    (hX : ∀ c : Dev nD, m (c.tc.loc main_arg0) = Layout.block ⟨2, ![512, 512]⟩ ⟨2, ![2048, 512]⟩ 0 4 c X)
    (hW1 : ∀ c : Dev nD, m (c.tc.loc main_arg1) = Layout.block ⟨2, ![512, 2048]⟩ ⟨2, ![512, 8192]⟩ 1 4 c W1)
    (h : ∀ c : Dev nD, Cert.Pre_small_KernelIdeal.fn (F := Ideal) (m (c.tc.loc main_arg0)) (m (c.tc.loc main_arg1)) (m (c.tc.loc main_arg2))
      = fun _ => 1#1) :
    Clip.refOut X W1 W2 = Ref.refOut X W1 W2 := by
  refine Clip.refOut_eq X W1 W2 (fun R => ?_) (fun K => ?_)
  · let d : Dev nD := ⟨R.val / 512, by have := R.isLt; show _ < 4; omega⟩
    have hb := (small_at _ _ _ (h d) ⟨R.val % 512, Nat.mod_lt _ (by decide)⟩ 0).1
    have e (q : Fin 512) : xAt m d (ix2 ⟨R.val % 512, Nat.mod_lt _ (by decide)⟩ q) = X (ix2 R q) := by
      rw [xAt, hX d, Layout.block_apply]
      refine congrArg X (funext fun x => Fin.ext ?_)
      fin_cases x
      · exact Nat.div_add_mod' R.val 512
      · rfl
    refine (Finset.sum_congr rfl fun q _ => ?_).trans_le hb
    rw [← e q]
    rfl
  · let d : Dev nD := ⟨K.val / 2048, by have := K.isLt; show _ < 4; omega⟩
    have hb := (small_at _ _ _ (h d) 0 ⟨K.val % 2048, Nat.mod_lt _ (by decide)⟩).2
    have e (q : Fin 512) : w1At m d (ix2 q ⟨K.val % 2048, Nat.mod_lt _ (by decide)⟩) = W1 (ix2 q K) := by
      rw [w1At, hW1 d, Layout.block_apply]
      refine congrArg W1 (funext fun x => Fin.ext ?_)
      fin_cases x
      · rfl
      · exact Nat.div_add_mod' K.val 2048
    refine (Finset.sum_congr rfl fun q _ => ?_).trans_le hb
    rw [← e q]
    rfl

end Cert.KProof

end
-- ==== Proof.lean ====
/-
# The claims, put together

The kernel ends with its arguments as they were and every semaphore at zero, at the bit patterns and at the extended reals;
so do the two references; and over the extended reals each device's result is its block of the unclipped reference's, and of
the clipped one's where the precondition makes the clip idle.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.UnclippedIdeal
public import proofs.«01_k».proof.Proof.Gen.Pre_small_KernelIdeal
public import proofs.«01_k».proof.Proof.Gen.Pre_small_ReferenceIdeal
public import proofs.«01_k».proof.Proof.Values
public import proofs.«01_k».proof.Proof.Small
public import Idealize.ShloMosaic.Adequacy
public import Idealize.ShloMosaic.Init

@[expose] public section

noncomputable section

namespace Cert.Proof

open Idealize.ShloMosaic Idealize.SL.Sem Cert.Kernel

/-- The part of the run that the frames state, over any float values. -/
theorem run_frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2))
      ∧ r.2.sem = fun _ => 0) :=
  (θ_run Cert.KernelIdeal.defs _ _).mono (fun _ h => ⟨fun c => (h.1 c).2, h.2⟩) (KProof.run_buffers m ρ)

/-- The printed kernel is the same text as its reading at the extended reals: at the bit patterns the two tables of bodies
    are one, -/
theorem bodies_same : Cert.Kernel.defs₀ (F := Bits) = Cert.KernelIdeal.defs₀ (F := Bits) := by
  refine congrArg Defs.onTc (funext fun ℓ => funext fun a => ?_)
  match ℓ, a with
  | ⟨0, _⟩, (t, s) => rfl
theorem tables_same : Cert.Kernel.defs (F := Bits) = Cert.KernelIdeal.defs (F := Bits) :=
  congrArg (Pipeline.defs (Cert.KernelIdeal.pcfgs (F := Bits))) bodies_same

/-- so the one run, taken at the bit patterns, is its run. -/
theorem frame_kernel : Cert.quiescent_Kernel := by
  intro m ρ _
  rw [tables_same]
  exact run_frame (F := Bits) m ρ

theorem frame_kernelIdeal : Cert.quiescent_KernelIdeal := fun m ρ _ => run_frame m ρ

/-- The references have no semaphore, so none is left raised. -/
theorem frame_reference : Cert.quiescent_ReferenceIdeal := fun m ρ _ =>
  (θ_run Cert.ReferenceIdeal.defs _ _).mono (fun r h => ⟨fun c => (h c).2, sem_eq_zero_of_no_sems (by decide) r.2⟩)
    (KProof.Clip.run m ρ)
theorem frame_unclipped : Cert.quiescent_UnclippedIdeal := fun m ρ _ =>
  (θ_run Cert.UnclippedIdeal.defs _ _).mono (fun r h => ⟨fun c => (h c).2, sem_eq_zero_of_no_sems (by decide) r.2⟩)
    (KProof.Ref.run m ρ)

/-- Device `c` ends with block `c` of the result of the reference without its clip, from any memory. -/
theorem value_unclipped : Cert.algebraic_KernelIdeal_UnclippedIdeal := by
  intro m ρ m' ρ' _ hagree
  refine ⟨_, ?_, (θ_run Cert.UnclippedIdeal.defs _ _).mono (fun _ h => h 0) (KProof.Ref.run m' ρ')⟩
  exact (θ_run Cert.KernelIdeal.defs _ _).mono
    (fun _ h c => ⟨(h.1 c).1.trans (KProof.outAt_block m _ _ _ (fun d => (hagree d).1) (fun d => (hagree d).2.1) (fun d => (hagree d).2.2) c),
      (h.1 c).2⟩)
    (KProof.run_buffers m ρ)

/-- Under the precondition that is block `c` of the result of the reference as it stands, clip and all. -/
theorem value : Cert.algebraic_KernelIdeal_ReferenceIdeal_pre_small_KernelIdeal := by
  intro m ρ m' ρ' hpre hagree
  refine ⟨_, ?_, (θ_run Cert.ReferenceIdeal.defs _ _).mono (fun _ h => h 0) (KProof.Clip.run m' ρ')⟩
  rw [KProof.clip_idle m _ _ _ (fun d => (hagree d).1) (fun d => (hagree d).2.1) hpre]
  exact (θ_run Cert.KernelIdeal.defs _ _).mono
    (fun _ h c => ⟨(h.1 c).1.trans (KProof.outAt_block m _ _ _ (fun d => (hagree d).1) (fun d => (hagree d).2.1) (fun d => (hagree d).2.2) c),
      (h.1 c).2⟩)
    (KProof.run_buffers m ρ)

theorem claim : Cert.Claim := ⟨Cert.Kernel.Gen.facts, Cert.KernelIdeal.Gen.facts, Cert.ReferenceIdeal.Gen.facts,
  Cert.UnclippedIdeal.Gen.facts, Cert.Pre_small_KernelIdeal.Gen.facts, Cert.Pre_small_ReferenceIdeal.Gen.facts,
  frame_kernel, frame_kernelIdeal, fun m ρ _ => frame_kernelIdeal m ρ trivial, frame_reference,
  fun m ρ _ => frame_reference m ρ trivial, frame_unclipped, trivial, value_unclipped, value⟩

end Cert.Proof

end
